-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scales [hPre_finite_scales : Cert.Pre_finite_scales.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scales.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_finite_scales.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_finite_scales.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scales [hPre_finite_scales : Cert.Pre_finite_scales.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scales.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_finite_scales.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_finite_scales.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite_scales [hKernelIdeal : Cert.KernelIdeal.Facts] [hPre_finite_scales : Cert.Pre_finite_scales.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scales m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite_scales [hReferenceIdeal : Cert.ReferenceIdeal.Facts] [hPre_finite_scales : Cert.Pre_finite_scales.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scales m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.bf16_pair.BufferStatement Cert.KernelIdeal.S144x2x256 Cert.KernelIdeal.S144x1x256
  ∧ IdealRules.bf16_pair.PackStatement Cert.KernelIdeal.S144x256
  ∧ IdealRules.bf16_pair.Statement Cert.KernelIdeal.S144x2x256 Cert.KernelIdeal.S144x1x256
  ∧ IdealRules.bf16_pair.Statement Cert.KernelIdeal.S1x2x256 Cert.KernelIdeal.S1x1x256
  ∧ IdealRules.bf16_pair.Statement Cert.KernelIdeal.S16x256 Cert.KernelIdeal.S8x256
  ∧ IdealRules.bf16_pair.BufferStatement Cert.KernelIdeal.S288x2x256 Cert.KernelIdeal.S288x1x256
  ∧ IdealRules.bf16_pair.PackStatement Cert.KernelIdeal.S288x256
  ∧ IdealRules.bf16_pair.Statement Cert.KernelIdeal.S288x2x256 Cert.KernelIdeal.S288x1x256

def algebraic_KernelIdeal_ReferenceIdeal_pre_finite_scales [hKernelIdeal : Cert.KernelIdeal.Facts] [hReferenceIdeal : Cert.ReferenceIdeal.Facts] [hPre_finite_scales : Cert.Pre_finite_scales.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scales m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_scales : Cert.Pre_finite_scales.Facts),
    quiescent_Kernel (hKernel := hKernel)
    ∧ quiescent_KernelIdeal (hKernelIdeal := hKernelIdeal)
    ∧ quiescent_KernelIdeal_pre_finite_scales (hKernelIdeal := hKernelIdeal) (hPre_finite_scales := hPre_finite_scales)
    ∧ quiescent_ReferenceIdeal (hReferenceIdeal := hReferenceIdeal)
    ∧ quiescent_ReferenceIdeal_pre_finite_scales (hReferenceIdeal := hReferenceIdeal) (hPre_finite_scales := hPre_finite_scales)
    ∧ preserves_Kernel_KernelIdeal
    ∧ algebraic_KernelIdeal_ReferenceIdeal_pre_finite_scales (hKernelIdeal := hKernelIdeal) (hReferenceIdeal := hReferenceIdeal) (hPre_finite_scales := hPre_finite_scales)
-- ==== Pre_finite_scales.lean ====
abbrev S256x1x4608 : Shape := ⟨3, ![256, 1, 4608]⟩
abbrev S9216x2304 : Shape := ⟨2, ![9216, 2304]⟩
abbrev S9216x144 : Shape := ⟨2, ![9216, 144]⟩
abbrev S4608x4608 : Shape := ⟨2, ![4608, 4608]⟩
abbrev S4608x288 : Shape := ⟨2, ![4608, 288]⟩
abbrev S_ : Shape := ⟨0, ![]⟩

class Facts : Prop where
  bcast_S_S9216x144 : S_.BroadcastsInDim S9216x144 (![] : Fin 0 → Fin S9216x144.rank)
  bcast_S_S4608x288 : S_.BroadcastsInDim S4608x288 (![] : Fin 0 → Fin S4608x288.rank)

variable [Facts]

def fn {F : FTy → Type} [FloatOps F] (main_arg0 : FVec F S256x1x4608 .bf16) (main_arg1 : IVec S9216x2304 8) (main_arg2 : FVec F S9216x144 .f32) (main_arg3 : IVec S9216x2304 8) (main_arg4 : FVec F S9216x144 .f32) (main_arg5 : IVec S4608x4608 8) (main_arg6 : FVec F S4608x288 .f32) : IVec S9216x144 1 × IVec S9216x144 1 × IVec S4608x288 1 :=
  let main_v0 : FVec F S9216x144 .f32 := Host.absf main_arg2
  let main_cst : FVec F S_ .f32 := constant S_ .f32 0x7F800000#32
  let main_v1 : FVec F S9216x144 .f32 := broadcastInDim S9216x144 ![] bcast_S_S9216x144 main_cst
  let main_v2 : IVec S9216x144 1 := cmpf .olt main_v0 main_v1
  let main_v3 : FVec F S9216x144 .f32 := Host.absf main_arg4
  let main_cst_0 : FVec F S_ .f32 := constant S_ .f32 0x7F800000#32
  let main_v4 : FVec F S9216x144 .f32 := broadcastInDim S9216x144 ![] bcast_S_S9216x144 main_cst_0
  let main_v5 : IVec S9216x144 1 := cmpf .olt main_v3 main_v4
  let main_v6 : FVec F S4608x288 .f32 := Host.absf main_arg6
  let main_cst_1 : FVec F S_ .f32 := constant S_ .f32 0x7F800000#32
  let main_v7 : FVec F S4608x288 .f32 := broadcastInDim S4608x288 ![] bcast_S_S4608x288 main_cst_1
  let main_v8 : IVec S4608x288 1 := cmpf .olt main_v6 main_v7
  (main_v2, main_v5, main_v8)
-- ==== Kernel.lean ====
abbrev S256x1x4608 : Shape := ⟨3, ![256, 1, 4608]⟩
abbrev S9216x2304 : Shape := ⟨2, ![9216, 2304]⟩
abbrev S9216x144 : Shape := ⟨2, ![9216, 144]⟩
abbrev S4608x4608 : Shape := ⟨2, ![4608, 4608]⟩
abbrev S4608x288 : Shape := ⟨2, ![4608, 288]⟩
abbrev S256x4608 : Shape := ⟨2, ![256, 4608]⟩
abbrev S144x9216 : Shape := ⟨2, ![144, 9216]⟩
abbrev S288x4608 : Shape := ⟨2, ![288, 4608]⟩
abbrev S256x9216 : Shape := ⟨2, ![256, 9216]⟩
abbrev S256x2304 : Shape := ⟨2, ![256, 2304]⟩
abbrev S144x256 : Shape := ⟨2, ![144, 256]⟩
abbrev S256x256 : Shape := ⟨2, ![256, 256]⟩
abbrev S4608x256 : Shape := ⟨2, ![4608, 256]⟩
abbrev S256x128 : Shape := ⟨2, ![256, 128]⟩
abbrev S128x256 : Shape := ⟨2, ![128, 256]⟩
abbrev S32x256 : Shape := ⟨2, ![32, 256]⟩
abbrev S1x256 : Shape := ⟨2, ![1, 256]⟩
abbrev S8x256 : Shape := ⟨2, ![8, 256]⟩
abbrev S16x256 : Shape := ⟨2, ![16, 256]⟩
abbrev S288x256 : Shape := ⟨2, ![288, 256]⟩
abbrev S9216x256 : Shape := ⟨2, ![9216, 256]⟩

abbrev nBuf : Space → Nat
  | .hbm => 14
  | .vmem => 25
  | .smem => 0
  | _ => 0

abbrev bufTy : (tb : Table) → Fin (tcTables nBuf tb) → BufTy
  | .hbm, ⟨0, _⟩ => ⟨S256x1x4608, .bf16⟩
  | .hbm, ⟨1, _⟩ => ⟨S9216x2304, .i8⟩
  | .hbm, ⟨2, _⟩ => ⟨S9216x144, .f32⟩
  | .hbm, ⟨3, _⟩ => ⟨S9216x2304, .i8⟩
  | .hbm, ⟨4, _⟩ => ⟨S9216x144, .f32⟩
  | .hbm, ⟨5, _⟩ => ⟨S4608x4608, .i8⟩
  | .hbm, ⟨6, _⟩ => ⟨S4608x288, .f32⟩
  | .hbm, ⟨7, _⟩ => ⟨S256x4608, .bf16⟩
  | .hbm, ⟨8, _⟩ => ⟨S144x9216, .f32⟩
  | .hbm, ⟨9, _⟩ => ⟨S144x9216, .f32⟩
  | .hbm, ⟨10, _⟩ => ⟨S288x4608, .f32⟩
  | .hbm, ⟨11, _⟩ => ⟨S256x9216, .bf16⟩
  | .hbm, ⟨12, _⟩ => ⟨S256x4608, .bf16⟩
  | .hbm, ⟨13, _⟩ => ⟨S256x1x4608, .bf16⟩
  | .local _ .vmem, ⟨0, _⟩ => ⟨S256x4608, .bf16⟩
  | .local _ .vmem, ⟨1, _⟩ => ⟨S256x2304, .i8⟩
  | .local _ .vmem, ⟨2, _⟩ => ⟨S256x2304, .i8⟩
  | .local _ .vmem, ⟨3, _⟩ => ⟨S144x256, .f32⟩
  | .local _ .vmem, ⟨4, _⟩ => ⟨S144x256, .f32⟩
  | .local _ .vmem, ⟨5, _⟩ => ⟨S256x2304, .i8⟩
  | .local _ .vmem, ⟨6, _⟩ => ⟨S256x2304, .i8⟩
  | .local _ .vmem, ⟨7, _⟩ => ⟨S144x256, .f32⟩
  | .local _ .vmem, ⟨8, _⟩ => ⟨S144x256, .f32⟩
  | .local _ .vmem, ⟨9, _⟩ => ⟨S256x256, .bf16⟩
  | .local _ .vmem, ⟨10, _⟩ => ⟨S256x256, .bf16⟩
  | .local _ .vmem, ⟨11, _⟩ => ⟨S144x256, .i32⟩
  | .local _ .vmem, ⟨12, _⟩ => ⟨S144x256, .i32⟩
  | .local _ .vmem, ⟨13, _⟩ => ⟨S4608x256, .bf16⟩
  | .local _ .vmem, ⟨14, _⟩ => ⟨S4608x256, .bf16⟩
  | .local _ .vmem, ⟨15, _⟩ => ⟨S256x9216, .bf16⟩
  | .local _ .vmem, ⟨16, _⟩ => ⟨S256x4608, .i8⟩
  | .local _ .vmem, ⟨17, _⟩ => ⟨S256x4608, .i8⟩
  | .local _ .vmem, ⟨18, _⟩ => ⟨S288x256, .f32⟩
  | .local _ .vmem, ⟨19, _⟩ => ⟨S288x256, .f32⟩
  | .local _ .vmem, ⟨20, _⟩ => ⟨S256x256, .bf16⟩
  | .local _ .vmem, ⟨21, _⟩ => ⟨S256x256, .bf16⟩
  | .local _ .vmem, ⟨22, _⟩ => ⟨S288x256, .i32⟩
  | .local _ .vmem, ⟨23, _⟩ => ⟨S288x256, .i32⟩
  | .local _ .vmem, ⟨24, _⟩ => ⟨S9216x256, .bf16⟩
  | _, _ => ⟨S256x1x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc1_stg0_0 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_scratch0 : Ref sig .tc := ⟨.vmem, 22, rfl⟩
abbrev cc1_scratch1 : Ref sig .tc := ⟨.vmem, 23, rfl⟩
abbrev cc1_scratch2 : Ref sig .tc := ⟨.vmem, 24, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc1_sem0_0 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17

abbrev nD : Nat := 1
abbrev τ : Topo := Topo.v7x

variable {F : FTy → Type} [BitOps F]

abbrev grid0 : Pipeline.Grid := ⟨1, ![36], ![false]⟩

@[reducible] def k0_t1_loop : Scf.Loop 32 :=
  let c0_i32 : BitVec 32 := 0#32
  let c18_i32 : BitVec 32 := 18#32
  let v19 : BitVec 32 := Scalar.addi c0_i32 c18_i32
  let c1_i32 : BitVec 32 := 1#32
  ⟨c0_i32, v19, c1_i32⟩
def k0_mult1 (k0_t1 : Fin k0_t1_loop.trips) : BitVec 32 :=
  let c0_i32_34 : BitVec 32 := 0#32
  let c0_i32 : BitVec 32 := 0#32
  let c1_i32 : BitVec 32 := 1#32
  let arg11 : BitVec 32 := Scf.iv c0_i32 c1_i32 k0_t1
  let c1_i32_33 : BitVec 32 := 1#32
  let v53 : BitVec 32 := Scalar.muli arg11 c1_i32_33
  let v54 : BitVec 32 := Scalar.addi c0_i32_34 v53
  let c128_i32 : BitVec 32 := 128#32
  let v55 : BitVec 32 := Scalar.muli v54 c128_i32
  v55
def k0_off1 (k0_t1 : Fin k0_t1_loop.trips) : Fin 2 → Nat :=
  let c0_35 : Index := 0#32
  let c0_i32_34 : BitVec 32 := 0#32
  let c0_i32 : BitVec 32 := 0#32
  let c1_i32 : BitVec 32 := 1#32
  let arg11 : BitVec 32 := Scf.iv c0_i32 c1_i32 k0_t1
  let c1_i32_33 : BitVec 32 := 1#32
  let v53 : BitVec 32 := Scalar.muli arg11 c1_i32_33
  let v54 : BitVec 32 := Scalar.addi c0_i32_34 v53
  let c128_i32 : BitVec 32 := 128#32
  let v55 : BitVec 32 := Scalar.muli v54 c128_i32
  let v56 : BitVec 32 := v55
  let v57 : Index := Scalar.indexCast v56
  ![0, v57.toNat]
def k0_off2 (k0_t1 : Fin k0_t1_loop.trips) (c0_i32_37 : BitVec 32) : Fin 2 → Nat :=
  let c0_i32_34 : BitVec 32 := 0#32
  let c0_i32 : BitVec 32 := 0#32
  let c1_i32 : BitVec 32 := 1#32
  let arg11 : BitVec 32 := Scf.iv c0_i32 c1_i32 k0_t1
  let c1_i32_33 : BitVec 32 := 1#32
  let v53 : BitVec 32 := Scalar.muli arg11 c1_i32_33
  let v54 : BitVec 32 := Scalar.addi c0_i32_34 v53
  let c8_i32 : BitVec 32 := 8#32
  let v73 : BitVec 32 := Scalar.muli v54 c8_i32
  let v74 : BitVec 32 := Scalar.addi v73 c0_i32_37
  let v75 : Index := Scalar.indexCast v74
  let c0_38 : Index := 0#32
  ![v75.toNat, 0]
def k0_mult2 (k0_t1 : Fin k0_t1_loop.trips) : BitVec 32 :=
  let c0_i32_34 : BitVec 32 := 0#32
  let c0_i32 : BitVec 32 := 0#32
  let c1_i32 : BitVec 32 := 1#32
  let arg11 : BitVec 32 := Scf.iv c0_i32 c1_i32 k0_t1
  let c1_i32_33 : BitVec 32 := 1#32
  let v53 : BitVec 32 := Scalar.muli arg11 c1_i32_33
  let v54 : BitVec 32 := Scalar.addi c0_i32_34 v53
  let c8_i32 : BitVec 32 := 8#32
  let v73 : BitVec 32 := Scalar.muli v54 c8_i32
  let c0_i32_37 : BitVec 32 := 0#32
  let v74 : BitVec 32 := Scalar.addi v73 c0_i32_37
  let c32_i32 : BitVec 32 := 32#32
  let v87 : BitVec 32 := Scalar.muli v74 c32_i32
  let c0_i32_40 : BitVec 32 := 0#32
  let v88 : BitVec 32 := Scalar.addi v87 c0_i32_40
  v88
def k0_off3 (k0_t1 : Fin k0_t1_loop.trips) (c0_i32_37 : BitVec 32) (c0_i32_40 : BitVec 32) : Fin 2 → Nat :=
  let c0_i32_34 : BitVec 32 := 0#32
  let c0_i32 : BitVec 32 := 0#32
  let c1_i32 : BitVec 32 := 1#32
  let arg11 : BitVec 32 := Scf.iv c0_i32 c1_i32 k0_t1
  let c1_i32_33 : BitVec 32 := 1#32
  let v53 : BitVec 32 := Scalar.muli arg11 c1_i32_33
  let v54 : BitVec 32 := Scalar.addi c0_i32_34 v53
  let c8_i32 : BitVec 32 := 8#32
  let v73 : BitVec 32 := Scalar.muli v54 c8_i32
  let v74 : BitVec 32 := Scalar.addi v73 c0_i32_37
  let c32_i32 : BitVec 32 := 32#32
  let v87 : BitVec 32 := Scalar.muli v74 c32_i32
  let v88 : BitVec 32 := Scalar.addi v87 c0_i32_40
  let v89 : BitVec 32 := v88
  let v90 : Index := Scalar.indexCast v89
  let c0_41 : Index := 0#32
  ![v90.toNat, 0]
def k0_mult3 (k0_t1 : Fin k0_t1_loop.trips) : BitVec 32 :=
  let c0_i32_34 : BitVec 32 := 0#32
  let c0_i32 : BitVec 32 := 0#32
  let c1_i32 : BitVec 32 := 1#32
  let arg11 : BitVec 32 := Scf.iv c0_i32 c1_i32 k0_t1
  let c1_i32_33 : BitVec 32 := 1#32
  let v53 : BitVec 32 := Scalar.muli arg11 c1_i32_33
  let v54 : BitVec 32 := Scalar.addi c0_i32_34 v53
  let c8_i32 : BitVec 32 := 8#32
  let v73 : BitVec 32 := Scalar.muli v54 c8_i32
  let c0_i32_37 : BitVec 32 := 0#32
  let v74 : BitVec 32 := Scalar.addi v73 c0_i32_37
  let c32_i32_42 : BitVec 32 := 32#32
  let v98 : BitVec 32 := Scalar.muli v74 c32_i32_42
  let c16_i32 : BitVec 32 := 16#32
  let v99 : BitVec 32 := Scalar.addi v98 c16_i32
  v99
def k0_mult4 (k0_t1 : Fin k0_t1_loop.trips) : BitVec 32 :=
  let c0_i32_34 : BitVec 32 := 0#32
  let c0_i32 : BitVec 32 := 0#32
  let c1_i32 : BitVec 32 := 1#32
  let arg11 : BitVec 32 := Scf.iv c0_i32 c1_i32 k0_t1
  let c1_i32_33 : BitVec 32 := 1#32
  let v53 : BitVec 32 := Scalar.muli arg11 c1_i32_33
  let v54 : BitVec 32 := Scalar.addi c0_i32_34 v53
  let c8_i32_44 : BitVec 32 := 8#32
  let v105 : BitVec 32 := Scalar.muli v54 c8_i32_44
  let c1_i32_45 : BitVec 32 := 1#32
  let v106 : BitVec 32 := Scalar.addi v105 c1_i32_45
  let c32_i32_48 : BitVec 32 := 32#32
  let v119 : BitVec 32 := Scalar.muli v106 c32_i32_48
  let c0_i32_49 : BitVec 32 := 0#32
  let v120 : BitVec 32 := Scalar.addi v119 c0_i32_49
  v120
def k0_mult5 (k0_t1 : Fin k0_t1_loop.trips) : BitVec 32 :=
  let c0_i32_34 : BitVec 32 := 0#32
  let c0_i32 : BitVec 32 := 0#32
  let c1_i32 : BitVec 32 := 1#32
  let arg11 : BitVec 32 := Scf.iv c0_i32 c1_i32 k0_t1
  let c1_i32_33 : BitVec 32 := 1#32
  let v53 : BitVec 32 := Scalar.muli arg11 c1_i32_33
  let v54 : BitVec 32 := Scalar.addi c0_i32_34 v53
  let c8_i32_44 : BitVec 32 := 8#32
  let v105 : BitVec 32 := Scalar.muli v54 c8_i32_44
  let c1_i32_45 : BitVec 32 := 1#32
  let v106 : BitVec 32 := Scalar.addi v105 c1_i32_45
  let c32_i32_51 : BitVec 32 := 32#32
  let v130 : BitVec 32 := Scalar.muli v106 c32_i32_51
  let c16_i32_52 : BitVec 32 := 16#32
  let v131 : BitVec 32 := Scalar.addi v130 c16_i32_52
  v131
def k0_mult6 (k0_t1 : Fin k0_t1_loop.trips) : BitVec 32 :=
  let c0_i32_34 : BitVec 32 := 0#32
  let c0_i32 : BitVec 32 := 0#32
  let c1_i32 : BitVec 32 := 1#32
  let arg11 : BitVec 32 := Scf.iv c0_i32 c1_i32 k0_t1
  let c1_i32_33 : BitVec 32 := 1#32
  let v53 : BitVec 32 := Scalar.muli arg11 c1_i32_33
  let v54 : BitVec 32 := Scalar.addi c0_i32_34 v53
  let c8_i32_54 : BitVec 32 := 8#32
  let v137 : BitVec 32 := Scalar.muli v54 c8_i32_54
  let c2_i32 : BitVec 32 := 2#32
  let v138 : BitVec 32 := Scalar.addi v137 c2_i32
  let c32_i32_57 : BitVec 32 := 32#32
  let v151 : BitVec 32 := Scalar.muli v138 c32_i32_57
  let c0_i32_58 : BitVec 32 := 0#32
  let v152 : BitVec 32 := Scalar.addi v151 c0_i32_58
  v152
def k0_mult7 (k0_t1 : Fin k0_t1_loop.trips) : BitVec 32 :=
  let c0_i32_34 : BitVec 32 := 0#32
  let c0_i32 : BitVec 32 := 0#32
  let c1_i32 : BitVec 32 := 1#32
  let arg11 : BitVec 32 := Scf.iv c0_i32 c1_i32 k0_t1
  let c1_i32_33 : BitVec 32 := 1#32
  let v53 : BitVec 32 := Scalar.muli arg11 c1_i32_33
  let v54 : BitVec 32 := Scalar.addi c0_i32_34 v53
  let c8_i32_54 : BitVec 32 := 8#32
  let v137 : BitVec 32 := Scalar.muli v54 c8_i32_54
  let c2_i32 : BitVec 32 := 2#32
  let v138 : BitVec 32 := Scalar.addi v137 c2_i32
  let c32_i32_60 : BitVec 32 := 32#32
  let v162 : BitVec 32 := Scalar.muli v138 c32_i32_60
  let c16_i32_61 : BitVec 32 := 16#32
  let v163 : BitVec 32 := Scalar.addi v162 c16_i32_61
  v163
def k0_mult8 (k0_t1 : Fin k0_t1_loop.trips) : BitVec 32 :=
  let c0_i32_34 : BitVec 32 := 0#32
  let c0_i32 : BitVec 32 := 0#32
  let c1_i32 : BitVec 32 := 1#32
  let arg11 : BitVec 32 := Scf.iv c0_i32 c1_i32 k0_t1
  let c1_i32_33 : BitVec 32 := 1#32
  let v53 : BitVec 32 := Scalar.muli arg11 c1_i32_33
  let v54 : BitVec 32 := Scalar.addi c0_i32_34 v53
  let c8_i32_63 : BitVec 32 := 8#32
  let v169 : BitVec 32 := Scalar.muli v54 c8_i32_63
  let c3_i32 : BitVec 32 := 3#32
  let v170 : BitVec 32 := Scalar.addi v169 c3_i32
  let c32_i32_66 : BitVec 32 := 32#32
  let v183 : BitVec 32 := Scalar.muli v170 c32_i32_66
  let c0_i32_67 : BitVec 32 := 0#32
  let v184 : BitVec 32 := Scalar.addi v183 c0_i32_67
  v184
def k0_mult9 (k0_t1 : Fin k0_t1_loop.trips) : BitVec 32 :=
  let c0_i32_34 : BitVec 32 := 0#32
  let c0_i32 : BitVec 32 := 0#32
  let c1_i32 : BitVec 32 := 1#32
  let arg11 : BitVec 32 := Scf.iv c0_i32 c1_i32 k0_t1
  let c1_i32_33 : BitVec 32 := 1#32
  let v53 : BitVec 32 := Scalar.muli arg11 c1_i32_33
  let v54 : BitVec 32 := Scalar.addi c0_i32_34 v53
  let c8_i32_63 : BitVec 32 := 8#32
  let v169 : BitVec 32 := Scalar.muli v54 c8_i32_63
  let c3_i32 : BitVec 32 := 3#32
  let v170 : BitVec 32 := Scalar.addi v169 c3_i32
  let c32_i32_69 : BitVec 32 := 32#32
  let v194 : BitVec 32 := Scalar.muli v170 c32_i32_69
  let c16_i32_70 : BitVec 32 := 16#32
  let v195 : BitVec 32 := Scalar.addi v194 c16_i32_70
  v195
def k0_mult10 (k0_t1 : Fin k0_t1_loop.trips) : BitVec 32 :=
  let c0_i32_34 : BitVec 32 := 0#32
  let c0_i32 : BitVec 32 := 0#32
  let c1_i32 : BitVec 32 := 1#32
  let arg11 : BitVec 32 := Scf.iv c0_i32 c1_i32 k0_t1
  let c1_i32_33 : BitVec 32 := 1#32
  let v53 : BitVec 32 := Scalar.muli arg11 c1_i32_33
  let v54 : BitVec 32 := Scalar.addi c0_i32_34 v53
  let c8_i32_72 : BitVec 32 := 8#32
  let v201 : BitVec 32 := Scalar.muli v54 c8_i32_72
  let c4_i32_73 : BitVec 32 := 4#32
  let v202 : BitVec 32 := Scalar.addi v201 c4_i32_73
  let c32_i32_76 : BitVec 32 := 32#32
  let v215 : BitVec 32 := Scalar.muli v202 c32_i32_76
  let c0_i32_77 : BitVec 32 := 0#32
  let v216 : BitVec 32 := Scalar.addi v215 c0_i32_77
  v216
def k0_mult11 (k0_t1 : Fin k0_t1_loop.trips) : BitVec 32 :=
  let c0_i32_34 : BitVec 32 := 0#32
  let c0_i32 : BitVec 32 := 0#32
  let c1_i32 : BitVec 32 := 1#32
  let arg11 : BitVec 32 := Scf.iv c0_i32 c1_i32 k0_t1
  let c1_i32_33 : BitVec 32 := 1#32
  let v53 : BitVec 32 := Scalar.muli arg11 c1_i32_33
  let v54 : BitVec 32 := Scalar.addi c0_i32_34 v53
  let c8_i32_72 : BitVec 32 := 8#32
  let v201 : BitVec 32 := Scalar.muli v54 c8_i32_72
  let c4_i32_73 : BitVec 32 := 4#32
  let v202 : BitVec 32 := Scalar.addi v201 c4_i32_73
  let c32_i32_79 : BitVec 32 := 32#32
  let v226 : BitVec 32 := Scalar.muli v202 c32_i32_79
  let c16_i32_80 : BitVec 32 := 16#32
  let v227 : BitVec 32 := Scalar.addi v226 c16_i32_80
  v227
def k0_mult12 (k0_t1 : Fin k0_t1_loop.trips) : BitVec 32 :=
  let c0_i32_34 : BitVec 32 := 0#32
  let c0_i32 : BitVec 32 := 0#32
  let c1_i32 : BitVec 32 := 1#32
  let arg11 : BitVec 32 := Scf.iv c0_i32 c1_i32 k0_t1
  let c1_i32_33 : BitVec 32 := 1#32
  let v53 : BitVec 32 := Scalar.muli arg11 c1_i32_33
  let v54 : BitVec 32 := Scalar.addi c0_i32_34 v53
  let c8_i32_82 : BitVec 32 := 8#32
  let v233 : BitVec 32 := Scalar.muli v54 c8_i32_82
  let c5_i32 : BitVec 32 := 5#32
  let v234 : BitVec 32 := Scalar.addi v233 c5_i32
  let c32_i32_85 : BitVec 32 := 32#32
  let v247 : BitVec 32 := Scalar.muli v234 c32_i32_85
  let c0_i32_86 : BitVec 32 := 0#32
  let v248 : BitVec 32 := Scalar.addi v247 c0_i32_86
  v248
def k0_mult13 (k0_t1 : Fin k0_t1_loop.trips) : BitVec 32 :=
  let c0_i32_34 : BitVec 32 := 0#32
  let c0_i32 : BitVec 32 := 0#32
  let c1_i32 : BitVec 32 := 1#32
  let arg11 : BitVec 32 := Scf.iv c0_i32 c1_i32 k0_t1
  let c1_i32_33 : BitVec 32 := 1#32
  let v53 : BitVec 32 := Scalar.muli arg11 c1_i32_33
  let v54 : BitVec 32 := Scalar.addi c0_i32_34 v53
  let c8_i32_82 : BitVec 32 := 8#32
  let v233 : BitVec 32 := Scalar.muli v54 c8_i32_82
  let c5_i32 : BitVec 32 := 5#32
  let v234 : BitVec 32 := Scalar.addi v233 c5_i32
  let c32_i32_88 : BitVec 32 := 32#32
  let v258 : BitVec 32 := Scalar.muli v234 c32_i32_88
  let c16_i32_89 : BitVec 32 := 16#32
  let v259 : BitVec 32 := Scalar.addi v258 c16_i32_89
  v259
def k0_mult14 (k0_t1 : Fin k0_t1_loop.trips) : BitVec 32 :=
  let c0_i32_34 : BitVec 32 := 0#32
  let c0_i32 : BitVec 32 := 0#32
  let c1_i32 : BitVec 32 := 1#32
  let arg11 : BitVec 32 := Scf.iv c0_i32 c1_i32 k0_t1
  let c1_i32_33 : BitVec 32 := 1#32
  let v53 : BitVec 32 := Scalar.muli arg11 c1_i32_33
  let v54 : BitVec 32 := Scalar.addi c0_i32_34 v53
  let c8_i32_91 : BitVec 32 := 8#32
  let v265 : BitVec 32 := Scalar.muli v54 c8_i32_91
  let c6_i32 : BitVec 32 := 6#32
  let v266 : BitVec 32 := Scalar.addi v265 c6_i32
  let c32_i32_94 : BitVec 32 := 32#32
  let v279 : BitVec 32 := Scalar.muli v266 c32_i32_94
  let c0_i32_95 : BitVec 32 := 0#32
  let v280 : BitVec 32 := Scalar.addi v279 c0_i32_95
  v280
def k0_mult15 (k0_t1 : Fin k0_t1_loop.trips) : BitVec 32 :=
  let c0_i32_34 : BitVec 32 := 0#32
  let c0_i32 : BitVec 32 := 0#32
  let c1_i32 : BitVec 32 := 1#32
  let arg11 : BitVec 32 := Scf.iv c0_i32 c1_i32 k0_t1
  let c1_i32_33 : BitVec 32 := 1#32
  let v53 : BitVec 32 := Scalar.muli arg11 c1_i32_33
  let v54 : BitVec 32 := Scalar.addi c0_i32_34 v53
  let c8_i32_91 : BitVec 32 := 8#32
  let v265 : BitVec 32 := Scalar.muli v54 c8_i32_91
  let c6_i32 : BitVec 32 := 6#32
  let v266 : BitVec 32 := Scalar.addi v265 c6_i32
  let c32_i32_97 : BitVec 32 := 32#32
  let v290 : BitVec 32 := Scalar.muli v266 c32_i32_97
  let c16_i32_98 : BitVec 32 := 16#32
  let v291 : BitVec 32 := Scalar.addi v290 c16_i32_98
  v291
def k0_mult16 (k0_t1 : Fin k0_t1_loop.trips) : BitVec 32 :=
  let c0_i32_34 : BitVec 32 := 0#32
  let c0_i32 : BitVec 32 := 0#32
  let c1_i32 : BitVec 32 := 1#32
  let arg11 : BitVec 32 := Scf.iv c0_i32 c1_i32 k0_t1
  let c1_i32_33 : BitVec 32 := 1#32
  let v53 : BitVec 32 := Scalar.muli arg11 c1_i32_33
  let v54 : BitVec 32 := Scalar.addi c0_i32_34 v53
  let c8_i32_100 : BitVec 32 := 8#32
  let v297 : BitVec 32 := Scalar.muli v54 c8_i32_100
  let c7_i32 : BitVec 32 := 7#32
  let v298 : BitVec 32 := Scalar.addi v297 c7_i32
  let c32_i32_103 : BitVec 32 := 32#32
  let v311 : BitVec 32 := Scalar.muli v298 c32_i32_103
  let c0_i32_104 : BitVec 32 := 0#32
  let v312 : BitVec 32 := Scalar.addi v311 c0_i32_104
  v312
def k0_mult17 (k0_t1 : Fin k0_t1_loop.trips) : BitVec 32 :=
  let c0_i32_34 : BitVec 32 := 0#32
  let c0_i32 : BitVec 32 := 0#32
  let c1_i32 : BitVec 32 := 1#32
  let arg11 : BitVec 32 := Scf.iv c0_i32 c1_i32 k0_t1
  let c1_i32_33 : BitVec 32 := 1#32
  let v53 : BitVec 32 := Scalar.muli arg11 c1_i32_33
  let v54 : BitVec 32 := Scalar.addi c0_i32_34 v53
  let c8_i32_100 : BitVec 32 := 8#32
  let v297 : BitVec 32 := Scalar.muli v54 c8_i32_100
  let c7_i32 : BitVec 32 := 7#32
  let v298 : BitVec 32 := Scalar.addi v297 c7_i32
  let c32_i32_106 : BitVec 32 := 32#32
  let v322 : BitVec 32 := Scalar.muli v298 c32_i32_106
  let c16_i32_107 : BitVec 32 := 16#32
  let v323 : BitVec 32 := Scalar.addi v322 c16_i32_107
  v323
@[reducible] def k0_t2_loop : Scf.Loop 32 :=
  let c0_i32_17 : BitVec 32 := 0#32
  let c18_i32_18 : BitVec 32 := 18#32
  let v39 : BitVec 32 := Scalar.addi c0_i32_17 c18_i32_18
  let c1_i32_19 : BitVec 32 := 1#32
  ⟨c0_i32_17, v39, c1_i32_19⟩
def k0_mult18 (k0_t2 : Fin k0_t2_loop.trips) : BitVec 32 :=
  let c0_i32_34 : BitVec 32 := 0#32
  let c0_i32_17 : BitVec 32 := 0#32
  let c1_i32_19 : BitVec 32 := 1#32
  let arg11 : BitVec 32 := Scf.iv c0_i32_17 c1_i32_19 k0_t2
  let c1_i32_33 : BitVec 32 := 1#32
  let v53 : BitVec 32 := Scalar.muli arg11 c1_i32_33
  let v54 : BitVec 32 := Scalar.addi c0_i32_34 v53
  let c128_i32 : BitVec 32 := 128#32
  let v55 : BitVec 32 := Scalar.muli v54 c128_i32
  v55
def k0_off4 (k0_t2 : Fin k0_t2_loop.trips) : Fin 2 → Nat :=
  let c0_35 : Index := 0#32
  let c0_i32_34 : BitVec 32 := 0#32
  let c0_i32_17 : BitVec 32 := 0#32
  let c1_i32_19 : BitVec 32 := 1#32
  let arg11 : BitVec 32 := Scf.iv c0_i32_17 c1_i32_19 k0_t2
  let c1_i32_33 : BitVec 32 := 1#32
  let v53 : BitVec 32 := Scalar.muli arg11 c1_i32_33
  let v54 : BitVec 32 := Scalar.addi c0_i32_34 v53
  let c128_i32 : BitVec 32 := 128#32
  let v55 : BitVec 32 := Scalar.muli v54 c128_i32
  let v56 : BitVec 32 := v55
  let v57 : Index := Scalar.indexCast v56
  ![0, v57.toNat]
def k0_off5 (k0_t2 : Fin k0_t2_loop.trips) (c0_i32_37 : BitVec 32) : Fin 2 → Nat :=
  let c0_i32_34 : BitVec 32 := 0#32
  let c0_i32_17 : BitVec 32 := 0#32
  let c1_i32_19 : BitVec 32 := 1#32
  let arg11 : BitVec 32 := Scf.iv c0_i32_17 c1_i32_19 k0_t2
  let c1_i32_33 : BitVec 32 := 1#32
  let v53 : BitVec 32 := Scalar.muli arg11 c1_i32_33
  let v54 : BitVec 32 := Scalar.addi c0_i32_34 v53
  let c8_i32 : BitVec 32 := 8#32
  let v73 : BitVec 32 := Scalar.muli v54 c8_i32
  let v74 : BitVec 32 := Scalar.addi v73 c0_i32_37
  let v75 : Index := Scalar.indexCast v74
  let c0_38 : Index := 0#32
  ![v75.toNat, 0]
def k0_mult19 (k0_t2 : Fin k0_t2_loop.trips) : BitVec 32 :=
  let c0_i32_34 : BitVec 32 := 0#32
  let c0_i32_17 : BitVec 32 := 0#32
  let c1_i32_19 : BitVec 32 := 1#32
  let arg11 : BitVec 32 := Scf.iv c0_i32_17 c1_i32_19 k0_t2
  let c1_i32_33 : BitVec 32 := 1#32
  let v53 : BitVec 32 := Scalar.muli arg11 c1_i32_33
  let v54 : BitVec 32 := Scalar.addi c0_i32_34 v53
  let c8_i32 : BitVec 32 := 8#32
  let v73 : BitVec 32 := Scalar.muli v54 c8_i32
  let c0_i32_37 : BitVec 32 := 0#32
  let v74 : BitVec 32 := Scalar.addi v73 c0_i32_37
  let c32_i32 : BitVec 32 := 32#32
  let v87 : BitVec 32 := Scalar.muli v74 c32_i32
  let c0_i32_40 : BitVec 32 := 0#32
  let v88 : BitVec 32 := Scalar.addi v87 c0_i32_40
  v88
def k0_off6 (k0_t2 : Fin k0_t2_loop.trips) (c0_i32_37 : BitVec 32) (c0_i32_40 : BitVec 32) : Fin 2 → Nat :=
  let c0_i32_34 : BitVec 32 := 0#32
  let c0_i32_17 : BitVec 32 := 0#32
  let c1_i32_19 : BitVec 32 := 1#32
  let arg11 : BitVec 32 := Scf.iv c0_i32_17 c1_i32_19 k0_t2
  let c1_i32_33 : BitVec 32 := 1#32
  let v53 : BitVec 32 := Scalar.muli arg11 c1_i32_33
  let v54 : BitVec 32 := Scalar.addi c0_i32_34 v53
  let c8_i32 : BitVec 32 := 8#32
  let v73 : BitVec 32 := Scalar.muli v54 c8_i32
  let v74 : BitVec 32 := Scalar.addi v73 c0_i32_37
  let c32_i32 : BitVec 32 := 32#32
  let v87 : BitVec 32 := Scalar.muli v74 c32_i32
  let v88 : BitVec 32 := Scalar.addi v87 c0_i32_40
  let v89 : BitVec 32 := v88
  let v90 : Index := Scalar.indexCast v89
  let c0_41 : Index := 0#32
  ![v90.toNat, 0]
def k0_mult20 (k0_t2 : Fin k0_t2_loop.trips) : BitVec 32 :=
  let c0_i32_34 : BitVec 32 := 0#32
  let c0_i32_17 : BitVec 32 := 0#32
  let c1_i32_19 : BitVec 32 := 1#32
  let arg11 : BitVec 32 := Scf.iv c0_i32_17 c1_i32_19 k0_t2
  let c1_i32_33 : BitVec 32 := 1#32
  let v53 : BitVec 32 := Scalar.muli arg11 c1_i32_33
  let v54 : BitVec 32 := Scalar.addi c0_i32_34 v53
  let c8_i32 : BitVec 32 := 8#32
  let v73 : BitVec 32 := Scalar.muli v54 c8_i32
  let c0_i32_37 : BitVec 32 := 0#32
  let v74 : BitVec 32 := Scalar.addi v73 c0_i32_37
  let c32_i32_42 : BitVec 32 := 32#32
  let v98 : BitVec 32 := Scalar.muli v74 c32_i32_42
  let c16_i32 : BitVec 32 := 16#32
  let v99 : BitVec 32 := Scalar.addi v98 c16_i32
  v99
def k0_mult21 (k0_t2 : Fin k0_t2_loop.trips) : BitVec 32 :=
  let c0_i32_34 : BitVec 32 := 0#32
  let c0_i32_17 : BitVec 32 := 0#32
  let c1_i32_19 : BitVec 32 := 1#32
  let arg11 : BitVec 32 := Scf.iv c0_i32_17 c1_i32_19 k0_t2
  let c1_i32_33 : BitVec 32 := 1#32
  let v53 : BitVec 32 := Scalar.muli arg11 c1_i32_33
  let v54 : BitVec 32 := Scalar.addi c0_i32_34 v53
  let c8_i32_44 : BitVec 32 := 8#32
  let v105 : BitVec 32 := Scalar.muli v54 c8_i32_44
  let c1_i32_45 : BitVec 32 := 1#32
  let v106 : BitVec 32 := Scalar.addi v105 c1_i32_45
  let c32_i32_48 : BitVec 32 := 32#32
  let v119 : BitVec 32 := Scalar.muli v106 c32_i32_48
  let c0_i32_49 : BitVec 32 := 0#32
  let v120 : BitVec 32 := Scalar.addi v119 c0_i32_49
  v120
def k0_mult22 (k0_t2 : Fin k0_t2_loop.trips) : BitVec 32 :=
  let c0_i32_34 : BitVec 32 := 0#32
  let c0_i32_17 : BitVec 32 := 0#32
  let c1_i32_19 : BitVec 32 := 1#32
  let arg11 : BitVec 32 := Scf.iv c0_i32_17 c1_i32_19 k0_t2
  let c1_i32_33 : BitVec 32 := 1#32
  let v53 : BitVec 32 := Scalar.muli arg11 c1_i32_33
  let v54 : BitVec 32 := Scalar.addi c0_i32_34 v53
  let c8_i32_44 : BitVec 32 := 8#32
  let v105 : BitVec 32 := Scalar.muli v54 c8_i32_44
  let c1_i32_45 : BitVec 32 := 1#32
  let v106 : BitVec 32 := Scalar.addi v105 c1_i32_45
  let c32_i32_51 : BitVec 32 := 32#32
  let v130 : BitVec 32 := Scalar.muli v106 c32_i32_51
  let c16_i32_52 : BitVec 32 := 16#32
  let v131 : BitVec 32 := Scalar.addi v130 c16_i32_52
  v131
def k0_mult23 (k0_t2 : Fin k0_t2_loop.trips) : BitVec 32 :=
  let c0_i32_34 : BitVec 32 := 0#32
  let c0_i32_17 : BitVec 32 := 0#32
  let c1_i32_19 : BitVec 32 := 1#32
  let arg11 : BitVec 32 := Scf.iv c0_i32_17 c1_i32_19 k0_t2
  let c1_i32_33 : BitVec 32 := 1#32
  let v53 : BitVec 32 := Scalar.muli arg11 c1_i32_33
  let v54 : BitVec 32 := Scalar.addi c0_i32_34 v53
  let c8_i32_54 : BitVec 32 := 8#32
  let v137 : BitVec 32 := Scalar.muli v54 c8_i32_54
  let c2_i32 : BitVec 32 := 2#32
  let v138 : BitVec 32 := Scalar.addi v137 c2_i32
  let c32_i32_57 : BitVec 32 := 32#32
  let v151 : BitVec 32 := Scalar.muli v138 c32_i32_57
  let c0_i32_58 : BitVec 32 := 0#32
  let v152 : BitVec 32 := Scalar.addi v151 c0_i32_58
  v152
def k0_mult24 (k0_t2 : Fin k0_t2_loop.trips) : BitVec 32 :=
  let c0_i32_34 : BitVec 32 := 0#32
  let c0_i32_17 : BitVec 32 := 0#32
  let c1_i32_19 : BitVec 32 := 1#32
  let arg11 : BitVec 32 := Scf.iv c0_i32_17 c1_i32_19 k0_t2
  let c1_i32_33 : BitVec 32 := 1#32
  let v53 : BitVec 32 := Scalar.muli arg11 c1_i32_33
  let v54 : BitVec 32 := Scalar.addi c0_i32_34 v53
  let c8_i32_54 : BitVec 32 := 8#32
  let v137 : BitVec 32 := Scalar.muli v54 c8_i32_54
  let c2_i32 : BitVec 32 := 2#32
  let v138 : BitVec 32 := Scalar.addi v137 c2_i32
  let c32_i32_60 : BitVec 32 := 32#32
  let v162 : BitVec 32 := Scalar.muli v138 c32_i32_60
  let c16_i32_61 : BitVec 32 := 16#32
  let v163 : BitVec 32 := Scalar.addi v162 c16_i32_61
  v163
def k0_mult25 (k0_t2 : Fin k0_t2_loop.trips) : BitVec 32 :=
  let c0_i32_34 : BitVec 32 := 0#32
  let c0_i32_17 : BitVec 32 := 0#32
  let c1_i32_19 : BitVec 32 := 1#32
  let arg11 : BitVec 32 := Scf.iv c0_i32_17 c1_i32_19 k0_t2
  let c1_i32_33 : BitVec 32 := 1#32
  let v53 : BitVec 32 := Scalar.muli arg11 c1_i32_33
  let v54 : BitVec 32 := Scalar.addi c0_i32_34 v53
  let c8_i32_63 : BitVec 32 := 8#32
  let v169 : BitVec 32 := Scalar.muli v54 c8_i32_63
  let c3_i32 : BitVec 32 := 3#32
  let v170 : BitVec 32 := Scalar.addi v169 c3_i32
  let c32_i32_66 : BitVec 32 := 32#32
  let v183 : BitVec 32 := Scalar.muli v170 c32_i32_66
  let c0_i32_67 : BitVec 32 := 0#32
  let v184 : BitVec 32 := Scalar.addi v183 c0_i32_67
  v184
def k0_mult26 (k0_t2 : Fin k0_t2_loop.trips) : BitVec 32 :=
  let c0_i32_34 : BitVec 32 := 0#32
  let c0_i32_17 : BitVec 32 := 0#32
  let c1_i32_19 : BitVec 32 := 1#32
  let arg11 : BitVec 32 := Scf.iv c0_i32_17 c1_i32_19 k0_t2
  let c1_i32_33 : BitVec 32 := 1#32
  let v53 : BitVec 32 := Scalar.muli arg11 c1_i32_33
  let v54 : BitVec 32 := Scalar.addi c0_i32_34 v53
  let c8_i32_63 : BitVec 32 := 8#32
  let v169 : BitVec 32 := Scalar.muli v54 c8_i32_63
  let c3_i32 : BitVec 32 := 3#32
  let v170 : BitVec 32 := Scalar.addi v169 c3_i32
  let c32_i32_69 : BitVec 32 := 32#32
  let v194 : BitVec 32 := Scalar.muli v170 c32_i32_69
  let c16_i32_70 : BitVec 32 := 16#32
  let v195 : BitVec 32 := Scalar.addi v194 c16_i32_70
  v195
def k0_mult27 (k0_t2 : Fin k0_t2_loop.trips) : BitVec 32 :=
  let c0_i32_34 : BitVec 32 := 0#32
  let c0_i32_17 : BitVec 32 := 0#32
  let c1_i32_19 : BitVec 32 := 1#32
  let arg11 : BitVec 32 := Scf.iv c0_i32_17 c1_i32_19 k0_t2
  let c1_i32_33 : BitVec 32 := 1#32
  let v53 : BitVec 32 := Scalar.muli arg11 c1_i32_33
  let v54 : BitVec 32 := Scalar.addi c0_i32_34 v53
  let c8_i32_72 : BitVec 32 := 8#32
  let v201 : BitVec 32 := Scalar.muli v54 c8_i32_72
  let c4_i32_73 : BitVec 32 := 4#32
  let v202 : BitVec 32 := Scalar.addi v201 c4_i32_73
  let c32_i32_76 : BitVec 32 := 32#32
  let v215 : BitVec 32 := Scalar.muli v202 c32_i32_76
  let c0_i32_77 : BitVec 32 := 0#32
  let v216 : BitVec 32 := Scalar.addi v215 c0_i32_77
  v216
def k0_mult28 (k0_t2 : Fin k0_t2_loop.trips) : BitVec 32 :=
  let c0_i32_34 : BitVec 32 := 0#32
  let c0_i32_17 : BitVec 32 := 0#32
  let c1_i32_19 : BitVec 32 := 1#32
  let arg11 : BitVec 32 := Scf.iv c0_i32_17 c1_i32_19 k0_t2
  let c1_i32_33 : BitVec 32 := 1#32
  let v53 : BitVec 32 := Scalar.muli arg11 c1_i32_33
  let v54 : BitVec 32 := Scalar.addi c0_i32_34 v53
  let c8_i32_72 : BitVec 32 := 8#32
  let v201 : BitVec 32 := Scalar.muli v54 c8_i32_72
  let c4_i32_73 : BitVec 32 := 4#32
  let v202 : BitVec 32 := Scalar.addi v201 c4_i32_73
  let c32_i32_79 : BitVec 32 := 32#32
  let v226 : BitVec 32 := Scalar.muli v202 c32_i32_79
  let c16_i32_80 : BitVec 32 := 16#32
  let v227 : BitVec 32 := Scalar.addi v226 c16_i32_80
  v227
def k0_mult29 (k0_t2 : Fin k0_t2_loop.trips) : BitVec 32 :=
  let c0_i32_34 : BitVec 32 := 0#32
  let c0_i32_17 : BitVec 32 := 0#32
  let c1_i32_19 : BitVec 32 := 1#32
  let arg11 : BitVec 32 := Scf.iv c0_i32_17 c1_i32_19 k0_t2
  let c1_i32_33 : BitVec 32 := 1#32
  let v53 : BitVec 32 := Scalar.muli arg11 c1_i32_33
  let v54 : BitVec 32 := Scalar.addi c0_i32_34 v53
  let c8_i32_82 : BitVec 32 := 8#32
  let v233 : BitVec 32 := Scalar.muli v54 c8_i32_82
  let c5_i32 : BitVec 32 := 5#32
  let v234 : BitVec 32 := Scalar.addi v233 c5_i32
  let c32_i32_85 : BitVec 32 := 32#32
  let v247 : BitVec 32 := Scalar.muli v234 c32_i32_85
  let c0_i32_86 : BitVec 32 := 0#32
  let v248 : BitVec 32 := Scalar.addi v247 c0_i32_86
  v248
def k0_mult30 (k0_t2 : Fin k0_t2_loop.trips) : BitVec 32 :=
  let c0_i32_34 : BitVec 32 := 0#32
  let c0_i32_17 : BitVec 32 := 0#32
  let c1_i32_19 : BitVec 32 := 1#32
  let arg11 : BitVec 32 := Scf.iv c0_i32_17 c1_i32_19 k0_t2
  let c1_i32_33 : BitVec 32 := 1#32
  let v53 : BitVec 32 := Scalar.muli arg11 c1_i32_33
  let v54 : BitVec 32 := Scalar.addi c0_i32_34 v53
  let c8_i32_82 : BitVec 32 := 8#32
  let v233 : BitVec 32 := Scalar.muli v54 c8_i32_82
  let c5_i32 : BitVec 32 := 5#32
  let v234 : BitVec 32 := Scalar.addi v233 c5_i32
  let c32_i32_88 : BitVec 32 := 32#32
  let v258 : BitVec 32 := Scalar.muli v234 c32_i32_88
  let c16_i32_89 : BitVec 32 := 16#32
  let v259 : BitVec 32 := Scalar.addi v258 c16_i32_89
  v259
def k0_mult31 (k0_t2 : Fin k0_t2_loop.trips) : BitVec 32 :=
  let c0_i32_34 : BitVec 32 := 0#32
  let c0_i32_17 : BitVec 32 := 0#32
  let c1_i32_19 : BitVec 32 := 1#32
  let arg11 : BitVec 32 := Scf.iv c0_i32_17 c1_i32_19 k0_t2
  let c1_i32_33 : BitVec 32 := 1#32
  let v53 : BitVec 32 := Scalar.muli arg11 c1_i32_33
  let v54 : BitVec 32 := Scalar.addi c0_i32_34 v53
  let c8_i32_91 : BitVec 32 := 8#32
  let v265 : BitVec 32 := Scalar.muli v54 c8_i32_91
  let c6_i32 : BitVec 32 := 6#32
  let v266 : BitVec 32 := Scalar.addi v265 c6_i32
  let c32_i32_94 : BitVec 32 := 32#32
  let v279 : BitVec 32 := Scalar.muli v266 c32_i32_94
  let c0_i32_95 : BitVec 32 := 0#32
  let v280 : BitVec 32 := Scalar.addi v279 c0_i32_95
  v280
def k0_mult32 (k0_t2 : Fin k0_t2_loop.trips) : BitVec 32 :=
  let c0_i32_34 : BitVec 32 := 0#32
  let c0_i32_17 : BitVec 32 := 0#32
  let c1_i32_19 : BitVec 32 := 1#32
  let arg11 : BitVec 32 := Scf.iv c0_i32_17 c1_i32_19 k0_t2
  let c1_i32_33 : BitVec 32 := 1#32
  let v53 : BitVec 32 := Scalar.muli arg11 c1_i32_33
  let v54 : BitVec 32 := Scalar.addi c0_i32_34 v53
  let c8_i32_91 : BitVec 32 := 8#32
  let v265 : BitVec 32 := Scalar.muli v54 c8_i32_91
  let c6_i32 : BitVec 32 := 6#32
  let v266 : BitVec 32 := Scalar.addi v265 c6_i32
  let c32_i32_97 : BitVec 32 := 32#32
  let v290 : BitVec 32 := Scalar.muli v266 c32_i32_97
  let c16_i32_98 : BitVec 32 := 16#32
  let v291 : BitVec 32 := Scalar.addi v290 c16_i32_98
  v291
def k0_mult33 (k0_t2 : Fin k0_t2_loop.trips) : BitVec 32 :=
  let c0_i32_34 : BitVec 32 := 0#32
  let c0_i32_17 : BitVec 32 := 0#32
  let c1_i32_19 : BitVec 32 := 1#32
  let arg11 : BitVec 32 := Scf.iv c0_i32_17 c1_i32_19 k0_t2
  let c1_i32_33 : BitVec 32 := 1#32
  let v53 : BitVec 32 := Scalar.muli arg11 c1_i32_33
  let v54 : BitVec 32 := Scalar.addi c0_i32_34 v53
  let c8_i32_100 : BitVec 32 := 8#32
  let v297 : BitVec 32 := Scalar.muli v54 c8_i32_100
  let c7_i32 : BitVec 32 := 7#32
  let v298 : BitVec 32 := Scalar.addi v297 c7_i32
  let c32_i32_103 : BitVec 32 := 32#32
  let v311 : BitVec 32 := Scalar.muli v298 c32_i32_103
  let c0_i32_104 : BitVec 32 := 0#32
  let v312 : BitVec 32 := Scalar.addi v311 c0_i32_104
  v312
def k0_mult34 (k0_t2 : Fin k0_t2_loop.trips) : BitVec 32 :=
  let c0_i32_34 : BitVec 32 := 0#32
  let c0_i32_17 : BitVec 32 := 0#32
  let c1_i32_19 : BitVec 32 := 1#32
  let arg11 : BitVec 32 := Scf.iv c0_i32_17 c1_i32_19 k0_t2
  let c1_i32_33 : BitVec 32 := 1#32
  let v53 : BitVec 32 := Scalar.muli arg11 c1_i32_33
  let v54 : BitVec 32 := Scalar.addi c0_i32_34 v53
  let c8_i32_100 : BitVec 32 := 8#32
  let v297 : BitVec 32 := Scalar.muli v54 c8_i32_100
  let c7_i32 : BitVec 32 := 7#32
  let v298 : BitVec 32 := Scalar.addi v297 c7_i32
  let c32_i32_106 : BitVec 32 := 32#32
  let v322 : BitVec 32 := Scalar.muli v298 c32_i32_106
  let c16_i32_107 : BitVec 32 := 16#32
  let v323 : BitVec 32 := Scalar.addi v322 c16_i32_107
  v323
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S256x4608 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x2304 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S144x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2304 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S144x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![18], ![false]⟩

@[reducible] def k1_t1_loop : Scf.Loop 32 :=
  let c0_i32 : BitVec 32 := 0#32
  let c36_i32 : BitVec 32 := 36#32
  let v19 : BitVec 32 := Scalar.addi c0_i32 c36_i32
  let c1_i32 : BitVec 32 := 1#32
  ⟨c0_i32, v19, c1_i32⟩
def k1_mult1 (k1_t1 : Fin k1_t1_loop.trips) : BitVec 32 :=
  let c0_i32_16 : BitVec 32 := 0#32
  let c0_i32 : BitVec 32 := 0#32
  let c1_i32 : BitVec 32 := 1#32
  let arg8 : BitVec 32 := Scf.iv c0_i32 c1_i32 k1_t1
  let c1_i32_15 : BitVec 32 := 1#32
  let v26 : BitVec 32 := Scalar.muli arg8 c1_i32_15
  let v27 : BitVec 32 := Scalar.addi c0_i32_16 v26
  let c128_i32 : BitVec 32 := 128#32
  let v28 : BitVec 32 := Scalar.muli v27 c128_i32
  v28
def k1_off1 (k1_t1 : Fin k1_t1_loop.trips) : Fin 2 → Nat :=
  let c0_17 : Index := 0#32
  let c0_i32_16 : BitVec 32 := 0#32
  let c0_i32 : BitVec 32 := 0#32
  let c1_i32 : BitVec 32 := 1#32
  let arg8 : BitVec 32 := Scf.iv c0_i32 c1_i32 k1_t1
  let c1_i32_15 : BitVec 32 := 1#32
  let v26 : BitVec 32 := Scalar.muli arg8 c1_i32_15
  let v27 : BitVec 32 := Scalar.addi c0_i32_16 v26
  let c128_i32 : BitVec 32 := 128#32
  let v28 : BitVec 32 := Scalar.muli v27 c128_i32
  let v29 : BitVec 32 := v28
  let v30 : Index := Scalar.indexCast v29
  ![0, v30.toNat]
def k1_off2 (k1_t1 : Fin k1_t1_loop.trips) (c0_i32_19 : BitVec 32) : Fin 2 → Nat :=
  let c0_i32_16 : BitVec 32 := 0#32
  let c0_i32 : BitVec 32 := 0#32
  let c1_i32 : BitVec 32 := 1#32
  let arg8 : BitVec 32 := Scf.iv c0_i32 c1_i32 k1_t1
  let c1_i32_15 : BitVec 32 := 1#32
  let v26 : BitVec 32 := Scalar.muli arg8 c1_i32_15
  let v27 : BitVec 32 := Scalar.addi c0_i32_16 v26
  let c8_i32 : BitVec 32 := 8#32
  let v46 : BitVec 32 := Scalar.muli v27 c8_i32
  let v47 : BitVec 32 := Scalar.addi v46 c0_i32_19
  let v48 : Index := Scalar.indexCast v47
  let c0_20 : Index := 0#32
  ![v48.toNat, 0]
def k1_mult2 (k1_t1 : Fin k1_t1_loop.trips) : BitVec 32 :=
  let c0_i32_16 : BitVec 32 := 0#32
  let c0_i32 : BitVec 32 := 0#32
  let c1_i32 : BitVec 32 := 1#32
  let arg8 : BitVec 32 := Scf.iv c0_i32 c1_i32 k1_t1
  let c1_i32_15 : BitVec 32 := 1#32
  let v26 : BitVec 32 := Scalar.muli arg8 c1_i32_15
  let v27 : BitVec 32 := Scalar.addi c0_i32_16 v26
  let c8_i32 : BitVec 32 := 8#32
  let v46 : BitVec 32 := Scalar.muli v27 c8_i32
  let c0_i32_19 : BitVec 32 := 0#32
  let v47 : BitVec 32 := Scalar.addi v46 c0_i32_19
  let c32_i32 : BitVec 32 := 32#32
  let v60 : BitVec 32 := Scalar.muli v47 c32_i32
  let c0_i32_22 : BitVec 32 := 0#32
  let v61 : BitVec 32 := Scalar.addi v60 c0_i32_22
  v61
def k1_off3 (k1_t1 : Fin k1_t1_loop.trips) (c0_i32_19 : BitVec 32) (c0_i32_22 : BitVec 32) : Fin 2 → Nat :=
  let c0_i32_16 : BitVec 32 := 0#32
  let c0_i32 : BitVec 32 := 0#32
  let c1_i32 : BitVec 32 := 1#32
  let arg8 : BitVec 32 := Scf.iv c0_i32 c1_i32 k1_t1
  let c1_i32_15 : BitVec 32 := 1#32
  let v26 : BitVec 32 := Scalar.muli arg8 c1_i32_15
  let v27 : BitVec 32 := Scalar.addi c0_i32_16 v26
  let c8_i32 : BitVec 32 := 8#32
  let v46 : BitVec 32 := Scalar.muli v27 c8_i32
  let v47 : BitVec 32 := Scalar.addi v46 c0_i32_19
  let c32_i32 : BitVec 32 := 32#32
  let v60 : BitVec 32 := Scalar.muli v47 c32_i32
  let v61 : BitVec 32 := Scalar.addi v60 c0_i32_22
  let v62 : BitVec 32 := v61
  let v63 : Index := Scalar.indexCast v62
  let c0_23 : Index := 0#32
  ![v63.toNat, 0]
def k1_mult3 (k1_t1 : Fin k1_t1_loop.trips) : BitVec 32 :=
  let c0_i32_16 : BitVec 32 := 0#32
  let c0_i32 : BitVec 32 := 0#32
  let c1_i32 : BitVec 32 := 1#32
  let arg8 : BitVec 32 := Scf.iv c0_i32 c1_i32 k1_t1
  let c1_i32_15 : BitVec 32 := 1#32
  let v26 : BitVec 32 := Scalar.muli arg8 c1_i32_15
  let v27 : BitVec 32 := Scalar.addi c0_i32_16 v26
  let c8_i32 : BitVec 32 := 8#32
  let v46 : BitVec 32 := Scalar.muli v27 c8_i32
  let c0_i32_19 : BitVec 32 := 0#32
  let v47 : BitVec 32 := Scalar.addi v46 c0_i32_19
  let c32_i32_24 : BitVec 32 := 32#32
  let v71 : BitVec 32 := Scalar.muli v47 c32_i32_24
  let c16_i32 : BitVec 32 := 16#32
  let v72 : BitVec 32 := Scalar.addi v71 c16_i32
  v72
def k1_mult4 (k1_t1 : Fin k1_t1_loop.trips) : BitVec 32 :=
  let c0_i32_16 : BitVec 32 := 0#32
  let c0_i32 : BitVec 32 := 0#32
  let c1_i32 : BitVec 32 := 1#32
  let arg8 : BitVec 32 := Scf.iv c0_i32 c1_i32 k1_t1
  let c1_i32_15 : BitVec 32 := 1#32
  let v26 : BitVec 32 := Scalar.muli arg8 c1_i32_15
  let v27 : BitVec 32 := Scalar.addi c0_i32_16 v26
  let c8_i32_26 : BitVec 32 := 8#32
  let v78 : BitVec 32 := Scalar.muli v27 c8_i32_26
  let c1_i32_27 : BitVec 32 := 1#32
  let v79 : BitVec 32 := Scalar.addi v78 c1_i32_27
  let c32_i32_30 : BitVec 32 := 32#32
  let v92 : BitVec 32 := Scalar.muli v79 c32_i32_30
  let c0_i32_31 : BitVec 32 := 0#32
  let v93 : BitVec 32 := Scalar.addi v92 c0_i32_31
  v93
def k1_mult5 (k1_t1 : Fin k1_t1_loop.trips) : BitVec 32 :=
  let c0_i32_16 : BitVec 32 := 0#32
  let c0_i32 : BitVec 32 := 0#32
  let c1_i32 : BitVec 32 := 1#32
  let arg8 : BitVec 32 := Scf.iv c0_i32 c1_i32 k1_t1
  let c1_i32_15 : BitVec 32 := 1#32
  let v26 : BitVec 32 := Scalar.muli arg8 c1_i32_15
  let v27 : BitVec 32 := Scalar.addi c0_i32_16 v26
  let c8_i32_26 : BitVec 32 := 8#32
  let v78 : BitVec 32 := Scalar.muli v27 c8_i32_26
  let c1_i32_27 : BitVec 32 := 1#32
  let v79 : BitVec 32 := Scalar.addi v78 c1_i32_27
  let c32_i32_33 : BitVec 32 := 32#32
  let v103 : BitVec 32 := Scalar.muli v79 c32_i32_33
  let c16_i32_34 : BitVec 32 := 16#32
  let v104 : BitVec 32 := Scalar.addi v103 c16_i32_34
  v104
def k1_mult6 (k1_t1 : Fin k1_t1_loop.trips) : BitVec 32 :=
  let c0_i32_16 : BitVec 32 := 0#32
  let c0_i32 : BitVec 32 := 0#32
  let c1_i32 : BitVec 32 := 1#32
  let arg8 : BitVec 32 := Scf.iv c0_i32 c1_i32 k1_t1
  let c1_i32_15 : BitVec 32 := 1#32
  let v26 : BitVec 32 := Scalar.muli arg8 c1_i32_15
  let v27 : BitVec 32 := Scalar.addi c0_i32_16 v26
  let c8_i32_36 : BitVec 32 := 8#32
  let v110 : BitVec 32 := Scalar.muli v27 c8_i32_36
  let c2_i32 : BitVec 32 := 2#32
  let v111 : BitVec 32 := Scalar.addi v110 c2_i32
  let c32_i32_39 : BitVec 32 := 32#32
  let v124 : BitVec 32 := Scalar.muli v111 c32_i32_39
  let c0_i32_40 : BitVec 32 := 0#32
  let v125 : BitVec 32 := Scalar.addi v124 c0_i32_40
  v125
def k1_mult7 (k1_t1 : Fin k1_t1_loop.trips) : BitVec 32 :=
  let c0_i32_16 : BitVec 32 := 0#32
  let c0_i32 : BitVec 32 := 0#32
  let c1_i32 : BitVec 32 := 1#32
  let arg8 : BitVec 32 := Scf.iv c0_i32 c1_i32 k1_t1
  let c1_i32_15 : BitVec 32 := 1#32
  let v26 : BitVec 32 := Scalar.muli arg8 c1_i32_15
  let v27 : BitVec 32 := Scalar.addi c0_i32_16 v26
  let c8_i32_36 : BitVec 32 := 8#32
  let v110 : BitVec 32 := Scalar.muli v27 c8_i32_36
  let c2_i32 : BitVec 32 := 2#32
  let v111 : BitVec 32 := Scalar.addi v110 c2_i32
  let c32_i32_42 : BitVec 32 := 32#32
  let v135 : BitVec 32 := Scalar.muli v111 c32_i32_42
  let c16_i32_43 : BitVec 32 := 16#32
  let v136 : BitVec 32 := Scalar.addi v135 c16_i32_43
  v136
def k1_mult8 (k1_t1 : Fin k1_t1_loop.trips) : BitVec 32 :=
  let c0_i32_16 : BitVec 32 := 0#32
  let c0_i32 : BitVec 32 := 0#32
  let c1_i32 : BitVec 32 := 1#32
  let arg8 : BitVec 32 := Scf.iv c0_i32 c1_i32 k1_t1
  let c1_i32_15 : BitVec 32 := 1#32
  let v26 : BitVec 32 := Scalar.muli arg8 c1_i32_15
  let v27 : BitVec 32 := Scalar.addi c0_i32_16 v26
  let c8_i32_45 : BitVec 32 := 8#32
  let v142 : BitVec 32 := Scalar.muli v27 c8_i32_45
  let c3_i32 : BitVec 32 := 3#32
  let v143 : BitVec 32 := Scalar.addi v142 c3_i32
  let c32_i32_48 : BitVec 32 := 32#32
  let v156 : BitVec 32 := Scalar.muli v143 c32_i32_48
  let c0_i32_49 : BitVec 32 := 0#32
  let v157 : BitVec 32 := Scalar.addi v156 c0_i32_49
  v157
def k1_mult9 (k1_t1 : Fin k1_t1_loop.trips) : BitVec 32 :=
  let c0_i32_16 : BitVec 32 := 0#32
  let c0_i32 : BitVec 32 := 0#32
  let c1_i32 : BitVec 32 := 1#32
  let arg8 : BitVec 32 := Scf.iv c0_i32 c1_i32 k1_t1
  let c1_i32_15 : BitVec 32 := 1#32
  let v26 : BitVec 32 := Scalar.muli arg8 c1_i32_15
  let v27 : BitVec 32 := Scalar.addi c0_i32_16 v26
  let c8_i32_45 : BitVec 32 := 8#32
  let v142 : BitVec 32 := Scalar.muli v27 c8_i32_45
  let c3_i32 : BitVec 32 := 3#32
  let v143 : BitVec 32 := Scalar.addi v142 c3_i32
  let c32_i32_51 : BitVec 32 := 32#32
  let v167 : BitVec 32 := Scalar.muli v143 c32_i32_51
  let c16_i32_52 : BitVec 32 := 16#32
  let v168 : BitVec 32 := Scalar.addi v167 c16_i32_52
  v168
def k1_mult10 (k1_t1 : Fin k1_t1_loop.trips) : BitVec 32 :=
  let c0_i32_16 : BitVec 32 := 0#32
  let c0_i32 : BitVec 32 := 0#32
  let c1_i32 : BitVec 32 := 1#32
  let arg8 : BitVec 32 := Scf.iv c0_i32 c1_i32 k1_t1
  let c1_i32_15 : BitVec 32 := 1#32
  let v26 : BitVec 32 := Scalar.muli arg8 c1_i32_15
  let v27 : BitVec 32 := Scalar.addi c0_i32_16 v26
  let c8_i32_54 : BitVec 32 := 8#32
  let v174 : BitVec 32 := Scalar.muli v27 c8_i32_54
  let c4_i32_55 : BitVec 32 := 4#32
  let v175 : BitVec 32 := Scalar.addi v174 c4_i32_55
  let c32_i32_58 : BitVec 32 := 32#32
  let v188 : BitVec 32 := Scalar.muli v175 c32_i32_58
  let c0_i32_59 : BitVec 32 := 0#32
  let v189 : BitVec 32 := Scalar.addi v188 c0_i32_59
  v189
def k1_mult11 (k1_t1 : Fin k1_t1_loop.trips) : BitVec 32 :=
  let c0_i32_16 : BitVec 32 := 0#32
  let c0_i32 : BitVec 32 := 0#32
  let c1_i32 : BitVec 32 := 1#32
  let arg8 : BitVec 32 := Scf.iv c0_i32 c1_i32 k1_t1
  let c1_i32_15 : BitVec 32 := 1#32
  let v26 : BitVec 32 := Scalar.muli arg8 c1_i32_15
  let v27 : BitVec 32 := Scalar.addi c0_i32_16 v26
  let c8_i32_54 : BitVec 32 := 8#32
  let v174 : BitVec 32 := Scalar.muli v27 c8_i32_54
  let c4_i32_55 : BitVec 32 := 4#32
  let v175 : BitVec 32 := Scalar.addi v174 c4_i32_55
  let c32_i32_61 : BitVec 32 := 32#32
  let v199 : BitVec 32 := Scalar.muli v175 c32_i32_61
  let c16_i32_62 : BitVec 32 := 16#32
  let v200 : BitVec 32 := Scalar.addi v199 c16_i32_62
  v200
def k1_mult12 (k1_t1 : Fin k1_t1_loop.trips) : BitVec 32 :=
  let c0_i32_16 : BitVec 32 := 0#32
  let c0_i32 : BitVec 32 := 0#32
  let c1_i32 : BitVec 32 := 1#32
  let arg8 : BitVec 32 := Scf.iv c0_i32 c1_i32 k1_t1
  let c1_i32_15 : BitVec 32 := 1#32
  let v26 : BitVec 32 := Scalar.muli arg8 c1_i32_15
  let v27 : BitVec 32 := Scalar.addi c0_i32_16 v26
  let c8_i32_64 : BitVec 32 := 8#32
  let v206 : BitVec 32 := Scalar.muli v27 c8_i32_64
  let c5_i32 : BitVec 32 := 5#32
  let v207 : BitVec 32 := Scalar.addi v206 c5_i32
  let c32_i32_67 : BitVec 32 := 32#32
  let v220 : BitVec 32 := Scalar.muli v207 c32_i32_67
  let c0_i32_68 : BitVec 32 := 0#32
  let v221 : BitVec 32 := Scalar.addi v220 c0_i32_68
  v221
def k1_mult13 (k1_t1 : Fin k1_t1_loop.trips) : BitVec 32 :=
  let c0_i32_16 : BitVec 32 := 0#32
  let c0_i32 : BitVec 32 := 0#32
  let c1_i32 : BitVec 32 := 1#32
  let arg8 : BitVec 32 := Scf.iv c0_i32 c1_i32 k1_t1
  let c1_i32_15 : BitVec 32 := 1#32
  let v26 : BitVec 32 := Scalar.muli arg8 c1_i32_15
  let v27 : BitVec 32 := Scalar.addi c0_i32_16 v26
  let c8_i32_64 : BitVec 32 := 8#32
  let v206 : BitVec 32 := Scalar.muli v27 c8_i32_64
  let c5_i32 : BitVec 32 := 5#32
  let v207 : BitVec 32 := Scalar.addi v206 c5_i32
  let c32_i32_70 : BitVec 32 := 32#32
  let v231 : BitVec 32 := Scalar.muli v207 c32_i32_70
  let c16_i32_71 : BitVec 32 := 16#32
  let v232 : BitVec 32 := Scalar.addi v231 c16_i32_71
  v232
def k1_mult14 (k1_t1 : Fin k1_t1_loop.trips) : BitVec 32 :=
  let c0_i32_16 : BitVec 32 := 0#32
  let c0_i32 : BitVec 32 := 0#32
  let c1_i32 : BitVec 32 := 1#32
  let arg8 : BitVec 32 := Scf.iv c0_i32 c1_i32 k1_t1
  let c1_i32_15 : BitVec 32 := 1#32
  let v26 : BitVec 32 := Scalar.muli arg8 c1_i32_15
  let v27 : BitVec 32 := Scalar.addi c0_i32_16 v26
  let c8_i32_73 : BitVec 32 := 8#32
  let v238 : BitVec 32 := Scalar.muli v27 c8_i32_73
  let c6_i32 : BitVec 32 := 6#32
  let v239 : BitVec 32 := Scalar.addi v238 c6_i32
  let c32_i32_76 : BitVec 32 := 32#32
  let v252 : BitVec 32 := Scalar.muli v239 c32_i32_76
  let c0_i32_77 : BitVec 32 := 0#32
  let v253 : BitVec 32 := Scalar.addi v252 c0_i32_77
  v253
def k1_mult15 (k1_t1 : Fin k1_t1_loop.trips) : BitVec 32 :=
  let c0_i32_16 : BitVec 32 := 0#32
  let c0_i32 : BitVec 32 := 0#32
  let c1_i32 : BitVec 32 := 1#32
  let arg8 : BitVec 32 := Scf.iv c0_i32 c1_i32 k1_t1
  let c1_i32_15 : BitVec 32 := 1#32
  let v26 : BitVec 32 := Scalar.muli arg8 c1_i32_15
  let v27 : BitVec 32 := Scalar.addi c0_i32_16 v26
  let c8_i32_73 : BitVec 32 := 8#32
  let v238 : BitVec 32 := Scalar.muli v27 c8_i32_73
  let c6_i32 : BitVec 32 := 6#32
  let v239 : BitVec 32 := Scalar.addi v238 c6_i32
  let c32_i32_79 : BitVec 32 := 32#32
  let v263 : BitVec 32 := Scalar.muli v239 c32_i32_79
  let c16_i32_80 : BitVec 32 := 16#32
  let v264 : BitVec 32 := Scalar.addi v263 c16_i32_80
  v264
def k1_mult16 (k1_t1 : Fin k1_t1_loop.trips) : BitVec 32 :=
  let c0_i32_16 : BitVec 32 := 0#32
  let c0_i32 : BitVec 32 := 0#32
  let c1_i32 : BitVec 32 := 1#32
  let arg8 : BitVec 32 := Scf.iv c0_i32 c1_i32 k1_t1
  let c1_i32_15 : BitVec 32 := 1#32
  let v26 : BitVec 32 := Scalar.muli arg8 c1_i32_15
  let v27 : BitVec 32 := Scalar.addi c0_i32_16 v26
  let c8_i32_82 : BitVec 32 := 8#32
  let v270 : BitVec 32 := Scalar.muli v27 c8_i32_82
  let c7_i32 : BitVec 32 := 7#32
  let v271 : BitVec 32 := Scalar.addi v270 c7_i32
  let c32_i32_85 : BitVec 32 := 32#32
  let v284 : BitVec 32 := Scalar.muli v271 c32_i32_85
  let c0_i32_86 : BitVec 32 := 0#32
  let v285 : BitVec 32 := Scalar.addi v284 c0_i32_86
  v285
def k1_mult17 (k1_t1 : Fin k1_t1_loop.trips) : BitVec 32 :=
  let c0_i32_16 : BitVec 32 := 0#32
  let c0_i32 : BitVec 32 := 0#32
  let c1_i32 : BitVec 32 := 1#32
  let arg8 : BitVec 32 := Scf.iv c0_i32 c1_i32 k1_t1
  let c1_i32_15 : BitVec 32 := 1#32
  let v26 : BitVec 32 := Scalar.muli arg8 c1_i32_15
  let v27 : BitVec 32 := Scalar.addi c0_i32_16 v26
  let c8_i32_82 : BitVec 32 := 8#32
  let v270 : BitVec 32 := Scalar.muli v27 c8_i32_82
  let c7_i32 : BitVec 32 := 7#32
  let v271 : BitVec 32 := Scalar.addi v270 c7_i32
  let c32_i32_88 : BitVec 32 := 32#32
  let v295 : BitVec 32 := Scalar.muli v271 c32_i32_88
  let c16_i32_89 : BitVec 32 := 16#32
  let v296 : BitVec 32 := Scalar.addi v295 c16_i32_89
  v296
def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S256x9216 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S256x4608 .i8 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S288x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]
-- ==== KernelIdeal.lean ====
abbrev S256x1x4608 : Shape := ⟨3, ![256, 1, 4608]⟩
abbrev S9216x2304 : Shape := ⟨2, ![9216, 2304]⟩
abbrev S9216x144 : Shape := ⟨2, ![9216, 144]⟩
abbrev S4608x4608 : Shape := ⟨2, ![4608, 4608]⟩
abbrev S4608x288 : Shape := ⟨2, ![4608, 288]⟩
abbrev S256x4608 : Shape := ⟨2, ![256, 4608]⟩
abbrev S144x9216 : Shape := ⟨2, ![144, 9216]⟩
abbrev S288x4608 : Shape := ⟨2, ![288, 4608]⟩
abbrev S256x9216 : Shape := ⟨2, ![256, 9216]⟩
abbrev S256x2304 : Shape := ⟨2, ![256, 2304]⟩
abbrev S144x256 : Shape := ⟨2, ![144, 256]⟩
abbrev S256x256 : Shape := ⟨2, ![256, 256]⟩
abbrev S144x2x256 : Shape := ⟨3, ![144, 2, 256]⟩
abbrev S144x1x256 : Shape := ⟨3, ![144, 1, 256]⟩
abbrev S4608x256 : Shape := ⟨2, ![4608, 256]⟩
abbrev S256x128 : Shape := ⟨2, ![256, 128]⟩
abbrev S128x256 : Shape := ⟨2, ![128, 256]⟩
abbrev S32x256 : Shape := ⟨2, ![32, 256]⟩
abbrev S1x256 : Shape := ⟨2, ![1, 256]⟩
abbrev S1x2x256 : Shape := ⟨3, ![1, 2, 256]⟩
abbrev S1x1x256 : Shape := ⟨3, ![1, 1, 256]⟩
abbrev S8x256 : Shape := ⟨2, ![8, 256]⟩
abbrev S16x256 : Shape := ⟨2, ![16, 256]⟩
abbrev S288x256 : Shape := ⟨2, ![288, 256]⟩
abbrev S288x2x256 : Shape := ⟨3, ![288, 2, 256]⟩
abbrev S288x1x256 : Shape := ⟨3, ![288, 1, 256]⟩
abbrev S9216x256 : Shape := ⟨2, ![9216, 256]⟩

abbrev nBuf : Space → Nat
  | .hbm => 14
  | .vmem => 25
  | .smem => 0
  | _ => 0

abbrev bufTy : (tb : Table) → Fin (tcTables nBuf tb) → BufTy
  | .hbm, ⟨0, _⟩ => ⟨S256x1x4608, .bf16⟩
  | .hbm, ⟨1, _⟩ => ⟨S9216x2304, .i8⟩
  | .hbm, ⟨2, _⟩ => ⟨S9216x144, .f32⟩
  | .hbm, ⟨3, _⟩ => ⟨S9216x2304, .i8⟩
  | .hbm, ⟨4, _⟩ => ⟨S9216x144, .f32⟩
  | .hbm, ⟨5, _⟩ => ⟨S4608x4608, .i8⟩
  | .hbm, ⟨6, _⟩ => ⟨S4608x288, .f32⟩
  | .hbm, ⟨7, _⟩ => ⟨S256x4608, .bf16⟩
  | .hbm, ⟨8, _⟩ => ⟨S144x9216, .f32⟩
  | .hbm, ⟨9, _⟩ => ⟨S144x9216, .f32⟩
  | .hbm, ⟨10, _⟩ => ⟨S288x4608, .f32⟩
  | .hbm, ⟨11, _⟩ => ⟨S256x9216, .bf16⟩
  | .hbm, ⟨12, _⟩ => ⟨S256x4608, .bf16⟩
  | .hbm, ⟨13, _⟩ => ⟨S256x1x4608, .bf16⟩
  | .local _ .vmem, ⟨0, _⟩ => ⟨S256x4608, .bf16⟩
  | .local _ .vmem, ⟨1, _⟩ => ⟨S256x2304, .i8⟩
  | .local _ .vmem, ⟨2, _⟩ => ⟨S256x2304, .i8⟩
  | .local _ .vmem, ⟨3, _⟩ => ⟨S144x256, .f32⟩
  | .local _ .vmem, ⟨4, _⟩ => ⟨S144x256, .f32⟩
  | .local _ .vmem, ⟨5, _⟩ => ⟨S256x2304, .i8⟩
  | .local _ .vmem, ⟨6, _⟩ => ⟨S256x2304, .i8⟩
  | .local _ .vmem, ⟨7, _⟩ => ⟨S144x256, .f32⟩
  | .local _ .vmem, ⟨8, _⟩ => ⟨S144x256, .f32⟩
  | .local _ .vmem, ⟨9, _⟩ => ⟨S256x256, .bf16⟩
  | .local _ .vmem, ⟨10, _⟩ => ⟨S256x256, .bf16⟩
  | .local _ .vmem, ⟨11, _⟩ => ⟨S144x2x256, .bf16⟩
  | .local _ .vmem, ⟨12, _⟩ => ⟨S144x2x256, .bf16⟩
  | .local _ .vmem, ⟨13, _⟩ => ⟨S4608x256, .bf16⟩
  | .local _ .vmem, ⟨14, _⟩ => ⟨S4608x256, .bf16⟩
  | .local _ .vmem, ⟨15, _⟩ => ⟨S256x9216, .bf16⟩
  | .local _ .vmem, ⟨16, _⟩ => ⟨S256x4608, .i8⟩
  | .local _ .vmem, ⟨17, _⟩ => ⟨S256x4608, .i8⟩
  | .local _ .vmem, ⟨18, _⟩ => ⟨S288x256, .f32⟩
  | .local _ .vmem, ⟨19, _⟩ => ⟨S288x256, .f32⟩
  | .local _ .vmem, ⟨20, _⟩ => ⟨S256x256, .bf16⟩
  | .local _ .vmem, ⟨21, _⟩ => ⟨S256x256, .bf16⟩
  | .local _ .vmem, ⟨22, _⟩ => ⟨S288x2x256, .bf16⟩
  | .local _ .vmem, ⟨23, _⟩ => ⟨S288x2x256, .bf16⟩
  | .local _ .vmem, ⟨24, _⟩ => ⟨S9216x256, .bf16⟩
  | _, _ => ⟨S256x1x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc1_stg0_0 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_scratch0 : Ref sig .tc := ⟨.vmem, 22, rfl⟩
abbrev cc1_scratch1 : Ref sig .tc := ⟨.vmem, 23, rfl⟩
abbrev cc1_scratch2 : Ref sig .tc := ⟨.vmem, 24, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc1_sem0_0 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17

abbrev nD : Nat := 1
abbrev τ : Topo := Topo.v7x

variable {F : FTy → Type} [FloatOps F]

abbrev grid0 : Pipeline.Grid := ⟨1, ![36], ![false]⟩

@[reducible] def k0_t1_loop : Scf.Loop 32 :=
  let c0_i32 : BitVec 32 := 0#32
  let c18_i32 : BitVec 32 := 18#32
  let v19 : BitVec 32 := Scalar.addi c0_i32 c18_i32
  let c1_i32 : BitVec 32 := 1#32
  ⟨c0_i32, v19, c1_i32⟩
def k0_mult1 (k0_t1 : Fin k0_t1_loop.trips) : BitVec 32 :=
  let c0_i32_34 : BitVec 32 := 0#32
  let c0_i32 : BitVec 32 := 0#32
  let c1_i32 : BitVec 32 := 1#32
  let arg11 : BitVec 32 := Scf.iv c0_i32 c1_i32 k0_t1
  let c1_i32_33 : BitVec 32 := 1#32
  let v53 : BitVec 32 := Scalar.muli arg11 c1_i32_33
  let v54 : BitVec 32 := Scalar.addi c0_i32_34 v53
  let c128_i32 : BitVec 32 := 128#32
  let v55 : BitVec 32 := Scalar.muli v54 c128_i32
  v55
def k0_off1 (k0_t1 : Fin k0_t1_loop.trips) : Fin 2 → Nat :=
  let c0_35 : Index := 0#32
  let c0_i32_34 : BitVec 32 := 0#32
  let c0_i32 : BitVec 32 := 0#32
  let c1_i32 : BitVec 32 := 1#32
  let arg11 : BitVec 32 := Scf.iv c0_i32 c1_i32 k0_t1
  let c1_i32_33 : BitVec 32 := 1#32
  let v53 : BitVec 32 := Scalar.muli arg11 c1_i32_33
  let v54 : BitVec 32 := Scalar.addi c0_i32_34 v53
  let c128_i32 : BitVec 32 := 128#32
  let v55 : BitVec 32 := Scalar.muli v54 c128_i32
  let v56 : BitVec 32 := v55
  let v57 : Index := Scalar.indexCast v56
  ![0, v57.toNat]
def k0_off2 (k0_t1 : Fin k0_t1_loop.trips) (c0_i32_37 : BitVec 32) : Fin 3 → Nat :=
  let c0_i32_34 : BitVec 32 := 0#32
  let c0_i32 : BitVec 32 := 0#32
  let c1_i32 : BitVec 32 := 1#32
  let arg11 : BitVec 32 := Scf.iv c0_i32 c1_i32 k0_t1
  let c1_i32_33 : BitVec 32 := 1#32
  let v53 : BitVec 32 := Scalar.muli arg11 c1_i32_33
  let v54 : BitVec 32 := Scalar.addi c0_i32_34 v53
  let c8_i32 : BitVec 32 := 8#32
  let v73 : BitVec 32 := Scalar.muli v54 c8_i32
  let v74 : BitVec 32 := Scalar.addi v73 c0_i32_37
  let v75 : Index := Scalar.indexCast v74
  let c0_38 : Index := 0#32
  ![v75.toNat, 0, 0]
def k0_mult2 (k0_t1 : Fin k0_t1_loop.trips) : BitVec 32 :=
  let c0_i32_34 : BitVec 32 := 0#32
  let c0_i32 : BitVec 32 := 0#32
  let c1_i32 : BitVec 32 := 1#32
  let arg11 : BitVec 32 := Scf.iv c0_i32 c1_i32 k0_t1
  let c1_i32_33 : BitVec 32 := 1#32
  let v53 : BitVec 32 := Scalar.muli arg11 c1_i32_33
  let v54 : BitVec 32 := Scalar.addi c0_i32_34 v53
  let c8_i32 : BitVec 32 := 8#32
  let v73 : BitVec 32 := Scalar.muli v54 c8_i32
  let c0_i32_37 : BitVec 32 := 0#32
  let v74 : BitVec 32 := Scalar.addi v73 c0_i32_37
  let c32_i32 : BitVec 32 := 32#32
  let v87 : BitVec 32 := Scalar.muli v74 c32_i32
  let c0_i32_40 : BitVec 32 := 0#32
  let v88 : BitVec 32 := Scalar.addi v87 c0_i32_40
  v88
def k0_off3 (k0_t1 : Fin k0_t1_loop.trips) (c0_i32_37 : BitVec 32) (c0_i32_40 : BitVec 32) : Fin 2 → Nat :=
  let c0_i32_34 : BitVec 32 := 0#32
  let c0_i32 : BitVec 32 := 0#32
  let c1_i32 : BitVec 32 := 1#32
  let arg11 : BitVec 32 := Scf.iv c0_i32 c1_i32 k0_t1
  let c1_i32_33 : BitVec 32 := 1#32
  let v53 : BitVec 32 := Scalar.muli arg11 c1_i32_33
  let v54 : BitVec 32 := Scalar.addi c0_i32_34 v53
  let c8_i32 : BitVec 32 := 8#32
  let v73 : BitVec 32 := Scalar.muli v54 c8_i32
  let v74 : BitVec 32 := Scalar.addi v73 c0_i32_37
  let c32_i32 : BitVec 32 := 32#32
  let v87 : BitVec 32 := Scalar.muli v74 c32_i32
  let v88 : BitVec 32 := Scalar.addi v87 c0_i32_40
  let v89 : BitVec 32 := v88
  let v90 : Index := Scalar.indexCast v89
  let c0_41 : Index := 0#32
  ![v90.toNat, 0]
def k0_mult3 (k0_t1 : Fin k0_t1_loop.trips) : BitVec 32 :=
  let c0_i32_34 : BitVec 32 := 0#32
  let c0_i32 : BitVec 32 := 0#32
  let c1_i32 : BitVec 32 := 1#32
  let arg11 : BitVec 32 := Scf.iv c0_i32 c1_i32 k0_t1
  let c1_i32_33 : BitVec 32 := 1#32
  let v53 : BitVec 32 := Scalar.muli arg11 c1_i32_33
  let v54 : BitVec 32 := Scalar.addi c0_i32_34 v53
  let c8_i32 : BitVec 32 := 8#32
  let v73 : BitVec 32 := Scalar.muli v54 c8_i32
  let c0_i32_37 : BitVec 32 := 0#32
  let v74 : BitVec 32 := Scalar.addi v73 c0_i32_37
  let c32_i32_42 : BitVec 32 := 32#32
  let v98 : BitVec 32 := Scalar.muli v74 c32_i32_42
  let c16_i32 : BitVec 32 := 16#32
  let v99 : BitVec 32 := Scalar.addi v98 c16_i32
  v99
def k0_mult4 (k0_t1 : Fin k0_t1_loop.trips) : BitVec 32 :=
  let c0_i32_34 : BitVec 32 := 0#32
  let c0_i32 : BitVec 32 := 0#32
  let c1_i32 : BitVec 32 := 1#32
  let arg11 : BitVec 32 := Scf.iv c0_i32 c1_i32 k0_t1
  let c1_i32_33 : BitVec 32 := 1#32
  let v53 : BitVec 32 := Scalar.muli arg11 c1_i32_33
  let v54 : BitVec 32 := Scalar.addi c0_i32_34 v53
  let c8_i32_44 : BitVec 32 := 8#32
  let v105 : BitVec 32 := Scalar.muli v54 c8_i32_44
  let c1_i32_45 : BitVec 32 := 1#32
  let v106 : BitVec 32 := Scalar.addi v105 c1_i32_45
  let c32_i32_48 : BitVec 32 := 32#32
  let v119 : BitVec 32 := Scalar.muli v106 c32_i32_48
  let c0_i32_49 : BitVec 32 := 0#32
  let v120 : BitVec 32 := Scalar.addi v119 c0_i32_49
  v120
def k0_mult5 (k0_t1 : Fin k0_t1_loop.trips) : BitVec 32 :=
  let c0_i32_34 : BitVec 32 := 0#32
  let c0_i32 : BitVec 32 := 0#32
  let c1_i32 : BitVec 32 := 1#32
  let arg11 : BitVec 32 := Scf.iv c0_i32 c1_i32 k0_t1
  let c1_i32_33 : BitVec 32 := 1#32
  let v53 : BitVec 32 := Scalar.muli arg11 c1_i32_33
  let v54 : BitVec 32 := Scalar.addi c0_i32_34 v53
  let c8_i32_44 : BitVec 32 := 8#32
  let v105 : BitVec 32 := Scalar.muli v54 c8_i32_44
  let c1_i32_45 : BitVec 32 := 1#32
  let v106 : BitVec 32 := Scalar.addi v105 c1_i32_45
  let c32_i32_51 : BitVec 32 := 32#32
  let v130 : BitVec 32 := Scalar.muli v106 c32_i32_51
  let c16_i32_52 : BitVec 32 := 16#32
  let v131 : BitVec 32 := Scalar.addi v130 c16_i32_52
  v131
def k0_mult6 (k0_t1 : Fin k0_t1_loop.trips) : BitVec 32 :=
  let c0_i32_34 : BitVec 32 := 0#32
  let c0_i32 : BitVec 32 := 0#32
  let c1_i32 : BitVec 32 := 1#32
  let arg11 : BitVec 32 := Scf.iv c0_i32 c1_i32 k0_t1
  let c1_i32_33 : BitVec 32 := 1#32
  let v53 : BitVec 32 := Scalar.muli arg11 c1_i32_33
  let v54 : BitVec 32 := Scalar.addi c0_i32_34 v53
  let c8_i32_54 : BitVec 32 := 8#32
  let v137 : BitVec 32 := Scalar.muli v54 c8_i32_54
  let c2_i32 : BitVec 32 := 2#32
  let v138 : BitVec 32 := Scalar.addi v137 c2_i32
  let c32_i32_57 : BitVec 32 := 32#32
  let v151 : BitVec 32 := Scalar.muli v138 c32_i32_57
  let c0_i32_58 : BitVec 32 := 0#32
  let v152 : BitVec 32 := Scalar.addi v151 c0_i32_58
  v152
def k0_mult7 (k0_t1 : Fin k0_t1_loop.trips) : BitVec 32 :=
  let c0_i32_34 : BitVec 32 := 0#32
  let c0_i32 : BitVec 32 := 0#32
  let c1_i32 : BitVec 32 := 1#32
  let arg11 : BitVec 32 := Scf.iv c0_i32 c1_i32 k0_t1
  let c1_i32_33 : BitVec 32 := 1#32
  let v53 : BitVec 32 := Scalar.muli arg11 c1_i32_33
  let v54 : BitVec 32 := Scalar.addi c0_i32_34 v53
  let c8_i32_54 : BitVec 32 := 8#32
  let v137 : BitVec 32 := Scalar.muli v54 c8_i32_54
  let c2_i32 : BitVec 32 := 2#32
  let v138 : BitVec 32 := Scalar.addi v137 c2_i32
  let c32_i32_60 : BitVec 32 := 32#32
  let v162 : BitVec 32 := Scalar.muli v138 c32_i32_60
  let c16_i32_61 : BitVec 32 := 16#32
  let v163 : BitVec 32 := Scalar.addi v162 c16_i32_61
  v163
def k0_mult8 (k0_t1 : Fin k0_t1_loop.trips) : BitVec 32 :=
  let c0_i32_34 : BitVec 32 := 0#32
  let c0_i32 : BitVec 32 := 0#32
  let c1_i32 : BitVec 32 := 1#32
  let arg11 : BitVec 32 := Scf.iv c0_i32 c1_i32 k0_t1
  let c1_i32_33 : BitVec 32 := 1#32
  let v53 : BitVec 32 := Scalar.muli arg11 c1_i32_33
  let v54 : BitVec 32 := Scalar.addi c0_i32_34 v53
  let c8_i32_63 : BitVec 32 := 8#32
  let v169 : BitVec 32 := Scalar.muli v54 c8_i32_63
  let c3_i32 : BitVec 32 := 3#32
  let v170 : BitVec 32 := Scalar.addi v169 c3_i32
  let c32_i32_66 : BitVec 32 := 32#32
  let v183 : BitVec 32 := Scalar.muli v170 c32_i32_66
  let c0_i32_67 : BitVec 32 := 0#32
  let v184 : BitVec 32 := Scalar.addi v183 c0_i32_67
  v184
def k0_mult9 (k0_t1 : Fin k0_t1_loop.trips) : BitVec 32 :=
  let c0_i32_34 : BitVec 32 := 0#32
  let c0_i32 : BitVec 32 := 0#32
  let c1_i32 : BitVec 32 := 1#32
  let arg11 : BitVec 32 := Scf.iv c0_i32 c1_i32 k0_t1
  let c1_i32_33 : BitVec 32 := 1#32
  let v53 : BitVec 32 := Scalar.muli arg11 c1_i32_33
  let v54 : BitVec 32 := Scalar.addi c0_i32_34 v53
  let c8_i32_63 : BitVec 32 := 8#32
  let v169 : BitVec 32 := Scalar.muli v54 c8_i32_63
  let c3_i32 : BitVec 32 := 3#32
  let v170 : BitVec 32 := Scalar.addi v169 c3_i32
  let c32_i32_69 : BitVec 32 := 32#32
  let v194 : BitVec 32 := Scalar.muli v170 c32_i32_69
  let c16_i32_70 : BitVec 32 := 16#32
  let v195 : BitVec 32 := Scalar.addi v194 c16_i32_70
  v195
def k0_mult10 (k0_t1 : Fin k0_t1_loop.trips) : BitVec 32 :=
  let c0_i32_34 : BitVec 32 := 0#32
  let c0_i32 : BitVec 32 := 0#32
  let c1_i32 : BitVec 32 := 1#32
  let arg11 : BitVec 32 := Scf.iv c0_i32 c1_i32 k0_t1
  let c1_i32_33 : BitVec 32 := 1#32
  let v53 : BitVec 32 := Scalar.muli arg11 c1_i32_33
  let v54 : BitVec 32 := Scalar.addi c0_i32_34 v53
  let c8_i32_72 : BitVec 32 := 8#32
  let v201 : BitVec 32 := Scalar.muli v54 c8_i32_72
  let c4_i32_73 : BitVec 32 := 4#32
  let v202 : BitVec 32 := Scalar.addi v201 c4_i32_73
  let c32_i32_76 : BitVec 32 := 32#32
  let v215 : BitVec 32 := Scalar.muli v202 c32_i32_76
  let c0_i32_77 : BitVec 32 := 0#32
  let v216 : BitVec 32 := Scalar.addi v215 c0_i32_77
  v216
def k0_mult11 (k0_t1 : Fin k0_t1_loop.trips) : BitVec 32 :=
  let c0_i32_34 : BitVec 32 := 0#32
  let c0_i32 : BitVec 32 := 0#32
  let c1_i32 : BitVec 32 := 1#32
  let arg11 : BitVec 32 := Scf.iv c0_i32 c1_i32 k0_t1
  let c1_i32_33 : BitVec 32 := 1#32
  let v53 : BitVec 32 := Scalar.muli arg11 c1_i32_33
  let v54 : BitVec 32 := Scalar.addi c0_i32_34 v53
  let c8_i32_72 : BitVec 32 := 8#32
  let v201 : BitVec 32 := Scalar.muli v54 c8_i32_72
  let c4_i32_73 : BitVec 32 := 4#32
  let v202 : BitVec 32 := Scalar.addi v201 c4_i32_73
  let c32_i32_79 : BitVec 32 := 32#32
  let v226 : BitVec 32 := Scalar.muli v202 c32_i32_79
  let c16_i32_80 : BitVec 32 := 16#32
  let v227 : BitVec 32 := Scalar.addi v226 c16_i32_80
  v227
def k0_mult12 (k0_t1 : Fin k0_t1_loop.trips) : BitVec 32 :=
  let c0_i32_34 : BitVec 32 := 0#32
  let c0_i32 : BitVec 32 := 0#32
  let c1_i32 : BitVec 32 := 1#32
  let arg11 : BitVec 32 := Scf.iv c0_i32 c1_i32 k0_t1
  let c1_i32_33 : BitVec 32 := 1#32
  let v53 : BitVec 32 := Scalar.muli arg11 c1_i32_33
  let v54 : BitVec 32 := Scalar.addi c0_i32_34 v53
  let c8_i32_82 : BitVec 32 := 8#32
  let v233 : BitVec 32 := Scalar.muli v54 c8_i32_82
  let c5_i32 : BitVec 32 := 5#32
  let v234 : BitVec 32 := Scalar.addi v233 c5_i32
  let c32_i32_85 : BitVec 32 := 32#32
  let v247 : BitVec 32 := Scalar.muli v234 c32_i32_85
  let c0_i32_86 : BitVec 32 := 0#32
  let v248 : BitVec 32 := Scalar.addi v247 c0_i32_86
  v248
def k0_mult13 (k0_t1 : Fin k0_t1_loop.trips) : BitVec 32 :=
  let c0_i32_34 : BitVec 32 := 0#32
  let c0_i32 : BitVec 32 := 0#32
  let c1_i32 : BitVec 32 := 1#32
  let arg11 : BitVec 32 := Scf.iv c0_i32 c1_i32 k0_t1
  let c1_i32_33 : BitVec 32 := 1#32
  let v53 : BitVec 32 := Scalar.muli arg11 c1_i32_33
  let v54 : BitVec 32 := Scalar.addi c0_i32_34 v53
  let c8_i32_82 : BitVec 32 := 8#32
  let v233 : BitVec 32 := Scalar.muli v54 c8_i32_82
  let c5_i32 : BitVec 32 := 5#32
  let v234 : BitVec 32 := Scalar.addi v233 c5_i32
  let c32_i32_88 : BitVec 32 := 32#32
  let v258 : BitVec 32 := Scalar.muli v234 c32_i32_88
  let c16_i32_89 : BitVec 32 := 16#32
  let v259 : BitVec 32 := Scalar.addi v258 c16_i32_89
  v259
def k0_mult14 (k0_t1 : Fin k0_t1_loop.trips) : BitVec 32 :=
  let c0_i32_34 : BitVec 32 := 0#32
  let c0_i32 : BitVec 32 := 0#32
  let c1_i32 : BitVec 32 := 1#32
  let arg11 : BitVec 32 := Scf.iv c0_i32 c1_i32 k0_t1
  let c1_i32_33 : BitVec 32 := 1#32
  let v53 : BitVec 32 := Scalar.muli arg11 c1_i32_33
  let v54 : BitVec 32 := Scalar.addi c0_i32_34 v53
  let c8_i32_91 : BitVec 32 := 8#32
  let v265 : BitVec 32 := Scalar.muli v54 c8_i32_91
  let c6_i32 : BitVec 32 := 6#32
  let v266 : BitVec 32 := Scalar.addi v265 c6_i32
  let c32_i32_94 : BitVec 32 := 32#32
  let v279 : BitVec 32 := Scalar.muli v266 c32_i32_94
  let c0_i32_95 : BitVec 32 := 0#32
  let v280 : BitVec 32 := Scalar.addi v279 c0_i32_95
  v280
def k0_mult15 (k0_t1 : Fin k0_t1_loop.trips) : BitVec 32 :=
  let c0_i32_34 : BitVec 32 := 0#32
  let c0_i32 : BitVec 32 := 0#32
  let c1_i32 : BitVec 32 := 1#32
  let arg11 : BitVec 32 := Scf.iv c0_i32 c1_i32 k0_t1
  let c1_i32_33 : BitVec 32 := 1#32
  let v53 : BitVec 32 := Scalar.muli arg11 c1_i32_33
  let v54 : BitVec 32 := Scalar.addi c0_i32_34 v53
  let c8_i32_91 : BitVec 32 := 8#32
  let v265 : BitVec 32 := Scalar.muli v54 c8_i32_91
  let c6_i32 : BitVec 32 := 6#32
  let v266 : BitVec 32 := Scalar.addi v265 c6_i32
  let c32_i32_97 : BitVec 32 := 32#32
  let v290 : BitVec 32 := Scalar.muli v266 c32_i32_97
  let c16_i32_98 : BitVec 32 := 16#32
  let v291 : BitVec 32 := Scalar.addi v290 c16_i32_98
  v291
def k0_mult16 (k0_t1 : Fin k0_t1_loop.trips) : BitVec 32 :=
  let c0_i32_34 : BitVec 32 := 0#32
  let c0_i32 : BitVec 32 := 0#32
  let c1_i32 : BitVec 32 := 1#32
  let arg11 : BitVec 32 := Scf.iv c0_i32 c1_i32 k0_t1
  let c1_i32_33 : BitVec 32 := 1#32
  let v53 : BitVec 32 := Scalar.muli arg11 c1_i32_33
  let v54 : BitVec 32 := Scalar.addi c0_i32_34 v53
  let c8_i32_100 : BitVec 32 := 8#32
  let v297 : BitVec 32 := Scalar.muli v54 c8_i32_100
  let c7_i32 : BitVec 32 := 7#32
  let v298 : BitVec 32 := Scalar.addi v297 c7_i32
  let c32_i32_103 : BitVec 32 := 32#32
  let v311 : BitVec 32 := Scalar.muli v298 c32_i32_103
  let c0_i32_104 : BitVec 32 := 0#32
  let v312 : BitVec 32 := Scalar.addi v311 c0_i32_104
  v312
def k0_mult17 (k0_t1 : Fin k0_t1_loop.trips) : BitVec 32 :=
  let c0_i32_34 : BitVec 32 := 0#32
  let c0_i32 : BitVec 32 := 0#32
  let c1_i32 : BitVec 32 := 1#32
  let arg11 : BitVec 32 := Scf.iv c0_i32 c1_i32 k0_t1
  let c1_i32_33 : BitVec 32 := 1#32
  let v53 : BitVec 32 := Scalar.muli arg11 c1_i32_33
  let v54 : BitVec 32 := Scalar.addi c0_i32_34 v53
  let c8_i32_100 : BitVec 32 := 8#32
  let v297 : BitVec 32 := Scalar.muli v54 c8_i32_100
  let c7_i32 : BitVec 32 := 7#32
  let v298 : BitVec 32 := Scalar.addi v297 c7_i32
  let c32_i32_106 : BitVec 32 := 32#32
  let v322 : BitVec 32 := Scalar.muli v298 c32_i32_106
  let c16_i32_107 : BitVec 32 := 16#32
  let v323 : BitVec 32 := Scalar.addi v322 c16_i32_107
  v323
@[reducible] def k0_t2_loop : Scf.Loop 32 :=
  let c0_i32_17 : BitVec 32 := 0#32
  let c18_i32_18 : BitVec 32 := 18#32
  let v39 : BitVec 32 := Scalar.addi c0_i32_17 c18_i32_18
  let c1_i32_19 : BitVec 32 := 1#32
  ⟨c0_i32_17, v39, c1_i32_19⟩
def k0_mult18 (k0_t2 : Fin k0_t2_loop.trips) : BitVec 32 :=
  let c0_i32_34 : BitVec 32 := 0#32
  let c0_i32_17 : BitVec 32 := 0#32
  let c1_i32_19 : BitVec 32 := 1#32
  let arg11 : BitVec 32 := Scf.iv c0_i32_17 c1_i32_19 k0_t2
  let c1_i32_33 : BitVec 32 := 1#32
  let v53 : BitVec 32 := Scalar.muli arg11 c1_i32_33
  let v54 : BitVec 32 := Scalar.addi c0_i32_34 v53
  let c128_i32 : BitVec 32 := 128#32
  let v55 : BitVec 32 := Scalar.muli v54 c128_i32
  v55
def k0_off4 (k0_t2 : Fin k0_t2_loop.trips) : Fin 2 → Nat :=
  let c0_35 : Index := 0#32
  let c0_i32_34 : BitVec 32 := 0#32
  let c0_i32_17 : BitVec 32 := 0#32
  let c1_i32_19 : BitVec 32 := 1#32
  let arg11 : BitVec 32 := Scf.iv c0_i32_17 c1_i32_19 k0_t2
  let c1_i32_33 : BitVec 32 := 1#32
  let v53 : BitVec 32 := Scalar.muli arg11 c1_i32_33
  let v54 : BitVec 32 := Scalar.addi c0_i32_34 v53
  let c128_i32 : BitVec 32 := 128#32
  let v55 : BitVec 32 := Scalar.muli v54 c128_i32
  let v56 : BitVec 32 := v55
  let v57 : Index := Scalar.indexCast v56
  ![0, v57.toNat]
def k0_off5 (k0_t2 : Fin k0_t2_loop.trips) (c0_i32_37 : BitVec 32) : Fin 3 → Nat :=
  let c0_i32_34 : BitVec 32 := 0#32
  let c0_i32_17 : BitVec 32 := 0#32
  let c1_i32_19 : BitVec 32 := 1#32
  let arg11 : BitVec 32 := Scf.iv c0_i32_17 c1_i32_19 k0_t2
  let c1_i32_33 : BitVec 32 := 1#32
  let v53 : BitVec 32 := Scalar.muli arg11 c1_i32_33
  let v54 : BitVec 32 := Scalar.addi c0_i32_34 v53
  let c8_i32 : BitVec 32 := 8#32
  let v73 : BitVec 32 := Scalar.muli v54 c8_i32
  let v74 : BitVec 32 := Scalar.addi v73 c0_i32_37
  let v75 : Index := Scalar.indexCast v74
  let c0_38 : Index := 0#32
  ![v75.toNat, 0, 0]
def k0_mult19 (k0_t2 : Fin k0_t2_loop.trips) : BitVec 32 :=
  let c0_i32_34 : BitVec 32 := 0#32
  let c0_i32_17 : BitVec 32 := 0#32
  let c1_i32_19 : BitVec 32 := 1#32
  let arg11 : BitVec 32 := Scf.iv c0_i32_17 c1_i32_19 k0_t2
  let c1_i32_33 : BitVec 32 := 1#32
  let v53 : BitVec 32 := Scalar.muli arg11 c1_i32_33
  let v54 : BitVec 32 := Scalar.addi c0_i32_34 v53
  let c8_i32 : BitVec 32 := 8#32
  let v73 : BitVec 32 := Scalar.muli v54 c8_i32
  let c0_i32_37 : BitVec 32 := 0#32
  let v74 : BitVec 32 := Scalar.addi v73 c0_i32_37
  let c32_i32 : BitVec 32 := 32#32
  let v87 : BitVec 32 := Scalar.muli v74 c32_i32
  let c0_i32_40 : BitVec 32 := 0#32
  let v88 : BitVec 32 := Scalar.addi v87 c0_i32_40
  v88
def k0_off6 (k0_t2 : Fin k0_t2_loop.trips) (c0_i32_37 : BitVec 32) (c0_i32_40 : BitVec 32) : Fin 2 → Nat :=
  let c0_i32_34 : BitVec 32 := 0#32
  let c0_i32_17 : BitVec 32 := 0#32
  let c1_i32_19 : BitVec 32 := 1#32
  let arg11 : BitVec 32 := Scf.iv c0_i32_17 c1_i32_19 k0_t2
  let c1_i32_33 : BitVec 32 := 1#32
  let v53 : BitVec 32 := Scalar.muli arg11 c1_i32_33
  let v54 : BitVec 32 := Scalar.addi c0_i32_34 v53
  let c8_i32 : BitVec 32 := 8#32
  let v73 : BitVec 32 := Scalar.muli v54 c8_i32
  let v74 : BitVec 32 := Scalar.addi v73 c0_i32_37
  let c32_i32 : BitVec 32 := 32#32
  let v87 : BitVec 32 := Scalar.muli v74 c32_i32
  let v88 : BitVec 32 := Scalar.addi v87 c0_i32_40
  let v89 : BitVec 32 := v88
  let v90 : Index := Scalar.indexCast v89
  let c0_41 : Index := 0#32
  ![v90.toNat, 0]
def k0_mult20 (k0_t2 : Fin k0_t2_loop.trips) : BitVec 32 :=
  let c0_i32_34 : BitVec 32 := 0#32
  let c0_i32_17 : BitVec 32 := 0#32
  let c1_i32_19 : BitVec 32 := 1#32
  let arg11 : BitVec 32 := Scf.iv c0_i32_17 c1_i32_19 k0_t2
  let c1_i32_33 : BitVec 32 := 1#32
  let v53 : BitVec 32 := Scalar.muli arg11 c1_i32_33
  let v54 : BitVec 32 := Scalar.addi c0_i32_34 v53
  let c8_i32 : BitVec 32 := 8#32
  let v73 : BitVec 32 := Scalar.muli v54 c8_i32
  let c0_i32_37 : BitVec 32 := 0#32
  let v74 : BitVec 32 := Scalar.addi v73 c0_i32_37
  let c32_i32_42 : BitVec 32 := 32#32
  let v98 : BitVec 32 := Scalar.muli v74 c32_i32_42
  let c16_i32 : BitVec 32 := 16#32
  let v99 : BitVec 32 := Scalar.addi v98 c16_i32
  v99
def k0_mult21 (k0_t2 : Fin k0_t2_loop.trips) : BitVec 32 :=
  let c0_i32_34 : BitVec 32 := 0#32
  let c0_i32_17 : BitVec 32 := 0#32
  let c1_i32_19 : BitVec 32 := 1#32
  let arg11 : BitVec 32 := Scf.iv c0_i32_17 c1_i32_19 k0_t2
  let c1_i32_33 : BitVec 32 := 1#32
  let v53 : BitVec 32 := Scalar.muli arg11 c1_i32_33
  let v54 : BitVec 32 := Scalar.addi c0_i32_34 v53
  let c8_i32_44 : BitVec 32 := 8#32
  let v105 : BitVec 32 := Scalar.muli v54 c8_i32_44
  let c1_i32_45 : BitVec 32 := 1#32
  let v106 : BitVec 32 := Scalar.addi v105 c1_i32_45
  let c32_i32_48 : BitVec 32 := 32#32
  let v119 : BitVec 32 := Scalar.muli v106 c32_i32_48
  let c0_i32_49 : BitVec 32 := 0#32
  let v120 : BitVec 32 := Scalar.addi v119 c0_i32_49
  v120
def k0_mult22 (k0_t2 : Fin k0_t2_loop.trips) : BitVec 32 :=
  let c0_i32_34 : BitVec 32 := 0#32
  let c0_i32_17 : BitVec 32 := 0#32
  let c1_i32_19 : BitVec 32 := 1#32
  let arg11 : BitVec 32 := Scf.iv c0_i32_17 c1_i32_19 k0_t2
  let c1_i32_33 : BitVec 32 := 1#32
  let v53 : BitVec 32 := Scalar.muli arg11 c1_i32_33
  let v54 : BitVec 32 := Scalar.addi c0_i32_34 v53
  let c8_i32_44 : BitVec 32 := 8#32
  let v105 : BitVec 32 := Scalar.muli v54 c8_i32_44
  let c1_i32_45 : BitVec 32 := 1#32
  let v106 : BitVec 32 := Scalar.addi v105 c1_i32_45
  let c32_i32_51 : BitVec 32 := 32#32
  let v130 : BitVec 32 := Scalar.muli v106 c32_i32_51
  let c16_i32_52 : BitVec 32 := 16#32
  let v131 : BitVec 32 := Scalar.addi v130 c16_i32_52
  v131
def k0_mult23 (k0_t2 : Fin k0_t2_loop.trips) : BitVec 32 :=
  let c0_i32_34 : BitVec 32 := 0#32
  let c0_i32_17 : BitVec 32 := 0#32
  let c1_i32_19 : BitVec 32 := 1#32
  let arg11 : BitVec 32 := Scf.iv c0_i32_17 c1_i32_19 k0_t2
  let c1_i32_33 : BitVec 32 := 1#32
  let v53 : BitVec 32 := Scalar.muli arg11 c1_i32_33
  let v54 : BitVec 32 := Scalar.addi c0_i32_34 v53
  let c8_i32_54 : BitVec 32 := 8#32
  let v137 : BitVec 32 := Scalar.muli v54 c8_i32_54
  let c2_i32 : BitVec 32 := 2#32
  let v138 : BitVec 32 := Scalar.addi v137 c2_i32
  let c32_i32_57 : BitVec 32 := 32#32
  let v151 : BitVec 32 := Scalar.muli v138 c32_i32_57
  let c0_i32_58 : BitVec 32 := 0#32
  let v152 : BitVec 32 := Scalar.addi v151 c0_i32_58
  v152
def k0_mult24 (k0_t2 : Fin k0_t2_loop.trips) : BitVec 32 :=
  let c0_i32_34 : BitVec 32 := 0#32
  let c0_i32_17 : BitVec 32 := 0#32
  let c1_i32_19 : BitVec 32 := 1#32
  let arg11 : BitVec 32 := Scf.iv c0_i32_17 c1_i32_19 k0_t2
  let c1_i32_33 : BitVec 32 := 1#32
  let v53 : BitVec 32 := Scalar.muli arg11 c1_i32_33
  let v54 : BitVec 32 := Scalar.addi c0_i32_34 v53
  let c8_i32_54 : BitVec 32 := 8#32
  let v137 : BitVec 32 := Scalar.muli v54 c8_i32_54
  let c2_i32 : BitVec 32 := 2#32
  let v138 : BitVec 32 := Scalar.addi v137 c2_i32
  let c32_i32_60 : BitVec 32 := 32#32
  let v162 : BitVec 32 := Scalar.muli v138 c32_i32_60
  let c16_i32_61 : BitVec 32 := 16#32
  let v163 : BitVec 32 := Scalar.addi v162 c16_i32_61
  v163
def k0_mult25 (k0_t2 : Fin k0_t2_loop.trips) : BitVec 32 :=
  let c0_i32_34 : BitVec 32 := 0#32
  let c0_i32_17 : BitVec 32 := 0#32
  let c1_i32_19 : BitVec 32 := 1#32
  let arg11 : BitVec 32 := Scf.iv c0_i32_17 c1_i32_19 k0_t2
  let c1_i32_33 : BitVec 32 := 1#32
  let v53 : BitVec 32 := Scalar.muli arg11 c1_i32_33
  let v54 : BitVec 32 := Scalar.addi c0_i32_34 v53
  let c8_i32_63 : BitVec 32 := 8#32
  let v169 : BitVec 32 := Scalar.muli v54 c8_i32_63
  let c3_i32 : BitVec 32 := 3#32
  let v170 : BitVec 32 := Scalar.addi v169 c3_i32
  let c32_i32_66 : BitVec 32 := 32#32
  let v183 : BitVec 32 := Scalar.muli v170 c32_i32_66
  let c0_i32_67 : BitVec 32 := 0#32
  let v184 : BitVec 32 := Scalar.addi v183 c0_i32_67
  v184
def k0_mult26 (k0_t2 : Fin k0_t2_loop.trips) : BitVec 32 :=
  let c0_i32_34 : BitVec 32 := 0#32
  let c0_i32_17 : BitVec 32 := 0#32
  let c1_i32_19 : BitVec 32 := 1#32
  let arg11 : BitVec 32 := Scf.iv c0_i32_17 c1_i32_19 k0_t2
  let c1_i32_33 : BitVec 32 := 1#32
  let v53 : BitVec 32 := Scalar.muli arg11 c1_i32_33
  let v54 : BitVec 32 := Scalar.addi c0_i32_34 v53
  let c8_i32_63 : BitVec 32 := 8#32
  let v169 : BitVec 32 := Scalar.muli v54 c8_i32_63
  let c3_i32 : BitVec 32 := 3#32
  let v170 : BitVec 32 := Scalar.addi v169 c3_i32
  let c32_i32_69 : BitVec 32 := 32#32
  let v194 : BitVec 32 := Scalar.muli v170 c32_i32_69
  let c16_i32_70 : BitVec 32 := 16#32
  let v195 : BitVec 32 := Scalar.addi v194 c16_i32_70
  v195
def k0_mult27 (k0_t2 : Fin k0_t2_loop.trips) : BitVec 32 :=
  let c0_i32_34 : BitVec 32 := 0#32
  let c0_i32_17 : BitVec 32 := 0#32
  let c1_i32_19 : BitVec 32 := 1#32
  let arg11 : BitVec 32 := Scf.iv c0_i32_17 c1_i32_19 k0_t2
  let c1_i32_33 : BitVec 32 := 1#32
  let v53 : BitVec 32 := Scalar.muli arg11 c1_i32_33
  let v54 : BitVec 32 := Scalar.addi c0_i32_34 v53
  let c8_i32_72 : BitVec 32 := 8#32
  let v201 : BitVec 32 := Scalar.muli v54 c8_i32_72
  let c4_i32_73 : BitVec 32 := 4#32
  let v202 : BitVec 32 := Scalar.addi v201 c4_i32_73
  let c32_i32_76 : BitVec 32 := 32#32
  let v215 : BitVec 32 := Scalar.muli v202 c32_i32_76
  let c0_i32_77 : BitVec 32 := 0#32
  let v216 : BitVec 32 := Scalar.addi v215 c0_i32_77
  v216
def k0_mult28 (k0_t2 : Fin k0_t2_loop.trips) : BitVec 32 :=
  let c0_i32_34 : BitVec 32 := 0#32
  let c0_i32_17 : BitVec 32 := 0#32
  let c1_i32_19 : BitVec 32 := 1#32
  let arg11 : BitVec 32 := Scf.iv c0_i32_17 c1_i32_19 k0_t2
  let c1_i32_33 : BitVec 32 := 1#32
  let v53 : BitVec 32 := Scalar.muli arg11 c1_i32_33
  let v54 : BitVec 32 := Scalar.addi c0_i32_34 v53
  let c8_i32_72 : BitVec 32 := 8#32
  let v201 : BitVec 32 := Scalar.muli v54 c8_i32_72
  let c4_i32_73 : BitVec 32 := 4#32
  let v202 : BitVec 32 := Scalar.addi v201 c4_i32_73
  let c32_i32_79 : BitVec 32 := 32#32
  let v226 : BitVec 32 := Scalar.muli v202 c32_i32_79
  let c16_i32_80 : BitVec 32 := 16#32
  let v227 : BitVec 32 := Scalar.addi v226 c16_i32_80
  v227
def k0_mult29 (k0_t2 : Fin k0_t2_loop.trips) : BitVec 32 :=
  let c0_i32_34 : BitVec 32 := 0#32
  let c0_i32_17 : BitVec 32 := 0#32
  let c1_i32_19 : BitVec 32 := 1#32
  let arg11 : BitVec 32 := Scf.iv c0_i32_17 c1_i32_19 k0_t2
  let c1_i32_33 : BitVec 32 := 1#32
  let v53 : BitVec 32 := Scalar.muli arg11 c1_i32_33
  let v54 : BitVec 32 := Scalar.addi c0_i32_34 v53
  let c8_i32_82 : BitVec 32 := 8#32
  let v233 : BitVec 32 := Scalar.muli v54 c8_i32_82
  let c5_i32 : BitVec 32 := 5#32
  let v234 : BitVec 32 := Scalar.addi v233 c5_i32
  let c32_i32_85 : BitVec 32 := 32#32
  let v247 : BitVec 32 := Scalar.muli v234 c32_i32_85
  let c0_i32_86 : BitVec 32 := 0#32
  let v248 : BitVec 32 := Scalar.addi v247 c0_i32_86
  v248
def k0_mult30 (k0_t2 : Fin k0_t2_loop.trips) : BitVec 32 :=
  let c0_i32_34 : BitVec 32 := 0#32
  let c0_i32_17 : BitVec 32 := 0#32
  let c1_i32_19 : BitVec 32 := 1#32
  let arg11 : BitVec 32 := Scf.iv c0_i32_17 c1_i32_19 k0_t2
  let c1_i32_33 : BitVec 32 := 1#32
  let v53 : BitVec 32 := Scalar.muli arg11 c1_i32_33
  let v54 : BitVec 32 := Scalar.addi c0_i32_34 v53
  let c8_i32_82 : BitVec 32 := 8#32
  let v233 : BitVec 32 := Scalar.muli v54 c8_i32_82
  let c5_i32 : BitVec 32 := 5#32
  let v234 : BitVec 32 := Scalar.addi v233 c5_i32
  let c32_i32_88 : BitVec 32 := 32#32
  let v258 : BitVec 32 := Scalar.muli v234 c32_i32_88
  let c16_i32_89 : BitVec 32 := 16#32
  let v259 : BitVec 32 := Scalar.addi v258 c16_i32_89
  v259
def k0_mult31 (k0_t2 : Fin k0_t2_loop.trips) : BitVec 32 :=
  let c0_i32_34 : BitVec 32 := 0#32
  let c0_i32_17 : BitVec 32 := 0#32
  let c1_i32_19 : BitVec 32 := 1#32
  let arg11 : BitVec 32 := Scf.iv c0_i32_17 c1_i32_19 k0_t2
  let c1_i32_33 : BitVec 32 := 1#32
  let v53 : BitVec 32 := Scalar.muli arg11 c1_i32_33
  let v54 : BitVec 32 := Scalar.addi c0_i32_34 v53
  let c8_i32_91 : BitVec 32 := 8#32
  let v265 : BitVec 32 := Scalar.muli v54 c8_i32_91
  let c6_i32 : BitVec 32 := 6#32
  let v266 : BitVec 32 := Scalar.addi v265 c6_i32
  let c32_i32_94 : BitVec 32 := 32#32
  let v279 : BitVec 32 := Scalar.muli v266 c32_i32_94
  let c0_i32_95 : BitVec 32 := 0#32
  let v280 : BitVec 32 := Scalar.addi v279 c0_i32_95
  v280
def k0_mult32 (k0_t2 : Fin k0_t2_loop.trips) : BitVec 32 :=
  let c0_i32_34 : BitVec 32 := 0#32
  let c0_i32_17 : BitVec 32 := 0#32
  let c1_i32_19 : BitVec 32 := 1#32
  let arg11 : BitVec 32 := Scf.iv c0_i32_17 c1_i32_19 k0_t2
  let c1_i32_33 : BitVec 32 := 1#32
  let v53 : BitVec 32 := Scalar.muli arg11 c1_i32_33
  let v54 : BitVec 32 := Scalar.addi c0_i32_34 v53
  let c8_i32_91 : BitVec 32 := 8#32
  let v265 : BitVec 32 := Scalar.muli v54 c8_i32_91
  let c6_i32 : BitVec 32 := 6#32
  let v266 : BitVec 32 := Scalar.addi v265 c6_i32
  let c32_i32_97 : BitVec 32 := 32#32
  let v290 : BitVec 32 := Scalar.muli v266 c32_i32_97
  let c16_i32_98 : BitVec 32 := 16#32
  let v291 : BitVec 32 := Scalar.addi v290 c16_i32_98
  v291
def k0_mult33 (k0_t2 : Fin k0_t2_loop.trips) : BitVec 32 :=
  let c0_i32_34 : BitVec 32 := 0#32
  let c0_i32_17 : BitVec 32 := 0#32
  let c1_i32_19 : BitVec 32 := 1#32
  let arg11 : BitVec 32 := Scf.iv c0_i32_17 c1_i32_19 k0_t2
  let c1_i32_33 : BitVec 32 := 1#32
  let v53 : BitVec 32 := Scalar.muli arg11 c1_i32_33
  let v54 : BitVec 32 := Scalar.addi c0_i32_34 v53
  let c8_i32_100 : BitVec 32 := 8#32
  let v297 : BitVec 32 := Scalar.muli v54 c8_i32_100
  let c7_i32 : BitVec 32 := 7#32
  let v298 : BitVec 32 := Scalar.addi v297 c7_i32
  let c32_i32_103 : BitVec 32 := 32#32
  let v311 : BitVec 32 := Scalar.muli v298 c32_i32_103
  let c0_i32_104 : BitVec 32 := 0#32
  let v312 : BitVec 32 := Scalar.addi v311 c0_i32_104
  v312
def k0_mult34 (k0_t2 : Fin k0_t2_loop.trips) : BitVec 32 :=
  let c0_i32_34 : BitVec 32 := 0#32
  let c0_i32_17 : BitVec 32 := 0#32
  let c1_i32_19 : BitVec 32 := 1#32
  let arg11 : BitVec 32 := Scf.iv c0_i32_17 c1_i32_19 k0_t2
  let c1_i32_33 : BitVec 32 := 1#32
  let v53 : BitVec 32 := Scalar.muli arg11 c1_i32_33
  let v54 : BitVec 32 := Scalar.addi c0_i32_34 v53
  let c8_i32_100 : BitVec 32 := 8#32
  let v297 : BitVec 32 := Scalar.muli v54 c8_i32_100
  let c7_i32 : BitVec 32 := 7#32
  let v298 : BitVec 32 := Scalar.addi v297 c7_i32
  let c32_i32_106 : BitVec 32 := 32#32
  let v322 : BitVec 32 := Scalar.muli v298 c32_i32_106
  let c16_i32_107 : BitVec 32 := 16#32
  let v323 : BitVec 32 := Scalar.addi v322 c16_i32_107
  v323
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S256x4608 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x2304 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S144x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2304 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S144x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![18], ![false]⟩

@[reducible] def k1_t1_loop : Scf.Loop 32 :=
  let c0_i32 : BitVec 32 := 0#32
  let c36_i32 : BitVec 32 := 36#32
  let v19 : BitVec 32 := Scalar.addi c0_i32 c36_i32
  let c1_i32 : BitVec 32 := 1#32
  ⟨c0_i32, v19, c1_i32⟩
def k1_mult1 (k1_t1 : Fin k1_t1_loop.trips) : BitVec 32 :=
  let c0_i32_16 : BitVec 32 := 0#32
  let c0_i32 : BitVec 32 := 0#32
  let c1_i32 : BitVec 32 := 1#32
  let arg8 : BitVec 32 := Scf.iv c0_i32 c1_i32 k1_t1
  let c1_i32_15 : BitVec 32 := 1#32
  let v26 : BitVec 32 := Scalar.muli arg8 c1_i32_15
  let v27 : BitVec 32 := Scalar.addi c0_i32_16 v26
  let c128_i32 : BitVec 32 := 128#32
  let v28 : BitVec 32 := Scalar.muli v27 c128_i32
  v28
def k1_off1 (k1_t1 : Fin k1_t1_loop.trips) : Fin 2 → Nat :=
  let c0_17 : Index := 0#32
  let c0_i32_16 : BitVec 32 := 0#32
  let c0_i32 : BitVec 32 := 0#32
  let c1_i32 : BitVec 32 := 1#32
  let arg8 : BitVec 32 := Scf.iv c0_i32 c1_i32 k1_t1
  let c1_i32_15 : BitVec 32 := 1#32
  let v26 : BitVec 32 := Scalar.muli arg8 c1_i32_15
  let v27 : BitVec 32 := Scalar.addi c0_i32_16 v26
  let c128_i32 : BitVec 32 := 128#32
  let v28 : BitVec 32 := Scalar.muli v27 c128_i32
  let v29 : BitVec 32 := v28
  let v30 : Index := Scalar.indexCast v29
  ![0, v30.toNat]
def k1_off2 (k1_t1 : Fin k1_t1_loop.trips) (c0_i32_19 : BitVec 32) : Fin 3 → Nat :=
  let c0_i32_16 : BitVec 32 := 0#32
  let c0_i32 : BitVec 32 := 0#32
  let c1_i32 : BitVec 32 := 1#32
  let arg8 : BitVec 32 := Scf.iv c0_i32 c1_i32 k1_t1
  let c1_i32_15 : BitVec 32 := 1#32
  let v26 : BitVec 32 := Scalar.muli arg8 c1_i32_15
  let v27 : BitVec 32 := Scalar.addi c0_i32_16 v26
  let c8_i32 : BitVec 32 := 8#32
  let v46 : BitVec 32 := Scalar.muli v27 c8_i32
  let v47 : BitVec 32 := Scalar.addi v46 c0_i32_19
  let v48 : Index := Scalar.indexCast v47
  let c0_20 : Index := 0#32
  ![v48.toNat, 0, 0]
def k1_mult2 (k1_t1 : Fin k1_t1_loop.trips) : BitVec 32 :=
  let c0_i32_16 : BitVec 32 := 0#32
  let c0_i32 : BitVec 32 := 0#32
  let c1_i32 : BitVec 32 := 1#32
  let arg8 : BitVec 32 := Scf.iv c0_i32 c1_i32 k1_t1
  let c1_i32_15 : BitVec 32 := 1#32
  let v26 : BitVec 32 := Scalar.muli arg8 c1_i32_15
  let v27 : BitVec 32 := Scalar.addi c0_i32_16 v26
  let c8_i32 : BitVec 32 := 8#32
  let v46 : BitVec 32 := Scalar.muli v27 c8_i32
  let c0_i32_19 : BitVec 32 := 0#32
  let v47 : BitVec 32 := Scalar.addi v46 c0_i32_19
  let c32_i32 : BitVec 32 := 32#32
  let v60 : BitVec 32 := Scalar.muli v47 c32_i32
  let c0_i32_22 : BitVec 32 := 0#32
  let v61 : BitVec 32 := Scalar.addi v60 c0_i32_22
  v61
def k1_off3 (k1_t1 : Fin k1_t1_loop.trips) (c0_i32_19 : BitVec 32) (c0_i32_22 : BitVec 32) : Fin 2 → Nat :=
  let c0_i32_16 : BitVec 32 := 0#32
  let c0_i32 : BitVec 32 := 0#32
  let c1_i32 : BitVec 32 := 1#32
  let arg8 : BitVec 32 := Scf.iv c0_i32 c1_i32 k1_t1
  let c1_i32_15 : BitVec 32 := 1#32
  let v26 : BitVec 32 := Scalar.muli arg8 c1_i32_15
  let v27 : BitVec 32 := Scalar.addi c0_i32_16 v26
  let c8_i32 : BitVec 32 := 8#32
  let v46 : BitVec 32 := Scalar.muli v27 c8_i32
  let v47 : BitVec 32 := Scalar.addi v46 c0_i32_19
  let c32_i32 : BitVec 32 := 32#32
  let v60 : BitVec 32 := Scalar.muli v47 c32_i32
  let v61 : BitVec 32 := Scalar.addi v60 c0_i32_22
  let v62 : BitVec 32 := v61
  let v63 : Index := Scalar.indexCast v62
  let c0_23 : Index := 0#32
  ![v63.toNat, 0]
def k1_mult3 (k1_t1 : Fin k1_t1_loop.trips) : BitVec 32 :=
  let c0_i32_16 : BitVec 32 := 0#32
  let c0_i32 : BitVec 32 := 0#32
  let c1_i32 : BitVec 32 := 1#32
  let arg8 : BitVec 32 := Scf.iv c0_i32 c1_i32 k1_t1
  let c1_i32_15 : BitVec 32 := 1#32
  let v26 : BitVec 32 := Scalar.muli arg8 c1_i32_15
  let v27 : BitVec 32 := Scalar.addi c0_i32_16 v26
  let c8_i32 : BitVec 32 := 8#32
  let v46 : BitVec 32 := Scalar.muli v27 c8_i32
  let c0_i32_19 : BitVec 32 := 0#32
  let v47 : BitVec 32 := Scalar.addi v46 c0_i32_19
  let c32_i32_24 : BitVec 32 := 32#32
  let v71 : BitVec 32 := Scalar.muli v47 c32_i32_24
  let c16_i32 : BitVec 32 := 16#32
  let v72 : BitVec 32 := Scalar.addi v71 c16_i32
  v72
def k1_mult4 (k1_t1 : Fin k1_t1_loop.trips) : BitVec 32 :=
  let c0_i32_16 : BitVec 32 := 0#32
  let c0_i32 : BitVec 32 := 0#32
  let c1_i32 : BitVec 32 := 1#32
  let arg8 : BitVec 32 := Scf.iv c0_i32 c1_i32 k1_t1
  let c1_i32_15 : BitVec 32 := 1#32
  let v26 : BitVec 32 := Scalar.muli arg8 c1_i32_15
  let v27 : BitVec 32 := Scalar.addi c0_i32_16 v26
  let c8_i32_26 : BitVec 32 := 8#32
  let v78 : BitVec 32 := Scalar.muli v27 c8_i32_26
  let c1_i32_27 : BitVec 32 := 1#32
  let v79 : BitVec 32 := Scalar.addi v78 c1_i32_27
  let c32_i32_30 : BitVec 32 := 32#32
  let v92 : BitVec 32 := Scalar.muli v79 c32_i32_30
  let c0_i32_31 : BitVec 32 := 0#32
  let v93 : BitVec 32 := Scalar.addi v92 c0_i32_31
  v93
def k1_mult5 (k1_t1 : Fin k1_t1_loop.trips) : BitVec 32 :=
  let c0_i32_16 : BitVec 32 := 0#32
  let c0_i32 : BitVec 32 := 0#32
  let c1_i32 : BitVec 32 := 1#32
  let arg8 : BitVec 32 := Scf.iv c0_i32 c1_i32 k1_t1
  let c1_i32_15 : BitVec 32 := 1#32
  let v26 : BitVec 32 := Scalar.muli arg8 c1_i32_15
  let v27 : BitVec 32 := Scalar.addi c0_i32_16 v26
  let c8_i32_26 : BitVec 32 := 8#32
  let v78 : BitVec 32 := Scalar.muli v27 c8_i32_26
  let c1_i32_27 : BitVec 32 := 1#32
  let v79 : BitVec 32 := Scalar.addi v78 c1_i32_27
  let c32_i32_33 : BitVec 32 := 32#32
  let v103 : BitVec 32 := Scalar.muli v79 c32_i32_33
  let c16_i32_34 : BitVec 32 := 16#32
  let v104 : BitVec 32 := Scalar.addi v103 c16_i32_34
  v104
def k1_mult6 (k1_t1 : Fin k1_t1_loop.trips) : BitVec 32 :=
  let c0_i32_16 : BitVec 32 := 0#32
  let c0_i32 : BitVec 32 := 0#32
  let c1_i32 : BitVec 32 := 1#32
  let arg8 : BitVec 32 := Scf.iv c0_i32 c1_i32 k1_t1
  let c1_i32_15 : BitVec 32 := 1#32
  let v26 : BitVec 32 := Scalar.muli arg8 c1_i32_15
  let v27 : BitVec 32 := Scalar.addi c0_i32_16 v26
  let c8_i32_36 : BitVec 32 := 8#32
  let v110 : BitVec 32 := Scalar.muli v27 c8_i32_36
  let c2_i32 : BitVec 32 := 2#32
  let v111 : BitVec 32 := Scalar.addi v110 c2_i32
  let c32_i32_39 : BitVec 32 := 32#32
  let v124 : BitVec 32 := Scalar.muli v111 c32_i32_39
  let c0_i32_40 : BitVec 32 := 0#32
  let v125 : BitVec 32 := Scalar.addi v124 c0_i32_40
  v125
def k1_mult7 (k1_t1 : Fin k1_t1_loop.trips) : BitVec 32 :=
  let c0_i32_16 : BitVec 32 := 0#32
  let c0_i32 : BitVec 32 := 0#32
  let c1_i32 : BitVec 32 := 1#32
  let arg8 : BitVec 32 := Scf.iv c0_i32 c1_i32 k1_t1
  let c1_i32_15 : BitVec 32 := 1#32
  let v26 : BitVec 32 := Scalar.muli arg8 c1_i32_15
  let v27 : BitVec 32 := Scalar.addi c0_i32_16 v26
  let c8_i32_36 : BitVec 32 := 8#32
  let v110 : BitVec 32 := Scalar.muli v27 c8_i32_36
  let c2_i32 : BitVec 32 := 2#32
  let v111 : BitVec 32 := Scalar.addi v110 c2_i32
  let c32_i32_42 : BitVec 32 := 32#32
  let v135 : BitVec 32 := Scalar.muli v111 c32_i32_42
  let c16_i32_43 : BitVec 32 := 16#32
  let v136 : BitVec 32 := Scalar.addi v135 c16_i32_43
  v136
def k1_mult8 (k1_t1 : Fin k1_t1_loop.trips) : BitVec 32 :=
  let c0_i32_16 : BitVec 32 := 0#32
  let c0_i32 : BitVec 32 := 0#32
  let c1_i32 : BitVec 32 := 1#32
  let arg8 : BitVec 32 := Scf.iv c0_i32 c1_i32 k1_t1
  let c1_i32_15 : BitVec 32 := 1#32
  let v26 : BitVec 32 := Scalar.muli arg8 c1_i32_15
  let v27 : BitVec 32 := Scalar.addi c0_i32_16 v26
  let c8_i32_45 : BitVec 32 := 8#32
  let v142 : BitVec 32 := Scalar.muli v27 c8_i32_45
  let c3_i32 : BitVec 32 := 3#32
  let v143 : BitVec 32 := Scalar.addi v142 c3_i32
  let c32_i32_48 : BitVec 32 := 32#32
  let v156 : BitVec 32 := Scalar.muli v143 c32_i32_48
  let c0_i32_49 : BitVec 32 := 0#32
  let v157 : BitVec 32 := Scalar.addi v156 c0_i32_49
  v157
def k1_mult9 (k1_t1 : Fin k1_t1_loop.trips) : BitVec 32 :=
  let c0_i32_16 : BitVec 32 := 0#32
  let c0_i32 : BitVec 32 := 0#32
  let c1_i32 : BitVec 32 := 1#32
  let arg8 : BitVec 32 := Scf.iv c0_i32 c1_i32 k1_t1
  let c1_i32_15 : BitVec 32 := 1#32
  let v26 : BitVec 32 := Scalar.muli arg8 c1_i32_15
  let v27 : BitVec 32 := Scalar.addi c0_i32_16 v26
  let c8_i32_45 : BitVec 32 := 8#32
  let v142 : BitVec 32 := Scalar.muli v27 c8_i32_45
  let c3_i32 : BitVec 32 := 3#32
  let v143 : BitVec 32 := Scalar.addi v142 c3_i32
  let c32_i32_51 : BitVec 32 := 32#32
  let v167 : BitVec 32 := Scalar.muli v143 c32_i32_51
  let c16_i32_52 : BitVec 32 := 16#32
  let v168 : BitVec 32 := Scalar.addi v167 c16_i32_52
  v168
def k1_mult10 (k1_t1 : Fin k1_t1_loop.trips) : BitVec 32 :=
  let c0_i32_16 : BitVec 32 := 0#32
  let c0_i32 : BitVec 32 := 0#32
  let c1_i32 : BitVec 32 := 1#32
  let arg8 : BitVec 32 := Scf.iv c0_i32 c1_i32 k1_t1
  let c1_i32_15 : BitVec 32 := 1#32
  let v26 : BitVec 32 := Scalar.muli arg8 c1_i32_15
  let v27 : BitVec 32 := Scalar.addi c0_i32_16 v26
  let c8_i32_54 : BitVec 32 := 8#32
  let v174 : BitVec 32 := Scalar.muli v27 c8_i32_54
  let c4_i32_55 : BitVec 32 := 4#32
  let v175 : BitVec 32 := Scalar.addi v174 c4_i32_55
  let c32_i32_58 : BitVec 32 := 32#32
  let v188 : BitVec 32 := Scalar.muli v175 c32_i32_58
  let c0_i32_59 : BitVec 32 := 0#32
  let v189 : BitVec 32 := Scalar.addi v188 c0_i32_59
  v189
def k1_mult11 (k1_t1 : Fin k1_t1_loop.trips) : BitVec 32 :=
  let c0_i32_16 : BitVec 32 := 0#32
  let c0_i32 : BitVec 32 := 0#32
  let c1_i32 : BitVec 32 := 1#32
  let arg8 : BitVec 32 := Scf.iv c0_i32 c1_i32 k1_t1
  let c1_i32_15 : BitVec 32 := 1#32
  let v26 : BitVec 32 := Scalar.muli arg8 c1_i32_15
  let v27 : BitVec 32 := Scalar.addi c0_i32_16 v26
  let c8_i32_54 : BitVec 32 := 8#32
  let v174 : BitVec 32 := Scalar.muli v27 c8_i32_54
  let c4_i32_55 : BitVec 32 := 4#32
  let v175 : BitVec 32 := Scalar.addi v174 c4_i32_55
  let c32_i32_61 : BitVec 32 := 32#32
  let v199 : BitVec 32 := Scalar.muli v175 c32_i32_61
  let c16_i32_62 : BitVec 32 := 16#32
  let v200 : BitVec 32 := Scalar.addi v199 c16_i32_62
  v200
def k1_mult12 (k1_t1 : Fin k1_t1_loop.trips) : BitVec 32 :=
  let c0_i32_16 : BitVec 32 := 0#32
  let c0_i32 : BitVec 32 := 0#32
  let c1_i32 : BitVec 32 := 1#32
  let arg8 : BitVec 32 := Scf.iv c0_i32 c1_i32 k1_t1
  let c1_i32_15 : BitVec 32 := 1#32
  let v26 : BitVec 32 := Scalar.muli arg8 c1_i32_15
  let v27 : BitVec 32 := Scalar.addi c0_i32_16 v26
  let c8_i32_64 : BitVec 32 := 8#32
  let v206 : BitVec 32 := Scalar.muli v27 c8_i32_64
  let c5_i32 : BitVec 32 := 5#32
  let v207 : BitVec 32 := Scalar.addi v206 c5_i32
  let c32_i32_67 : BitVec 32 := 32#32
  let v220 : BitVec 32 := Scalar.muli v207 c32_i32_67
  let c0_i32_68 : BitVec 32 := 0#32
  let v221 : BitVec 32 := Scalar.addi v220 c0_i32_68
  v221
def k1_mult13 (k1_t1 : Fin k1_t1_loop.trips) : BitVec 32 :=
  let c0_i32_16 : BitVec 32 := 0#32
  let c0_i32 : BitVec 32 := 0#32
  let c1_i32 : BitVec 32 := 1#32
  let arg8 : BitVec 32 := Scf.iv c0_i32 c1_i32 k1_t1
  let c1_i32_15 : BitVec 32 := 1#32
  let v26 : BitVec 32 := Scalar.muli arg8 c1_i32_15
  let v27 : BitVec 32 := Scalar.addi c0_i32_16 v26
  let c8_i32_64 : BitVec 32 := 8#32
  let v206 : BitVec 32 := Scalar.muli v27 c8_i32_64
  let c5_i32 : BitVec 32 := 5#32
  let v207 : BitVec 32 := Scalar.addi v206 c5_i32
  let c32_i32_70 : BitVec 32 := 32#32
  let v231 : BitVec 32 := Scalar.muli v207 c32_i32_70
  let c16_i32_71 : BitVec 32 := 16#32
  let v232 : BitVec 32 := Scalar.addi v231 c16_i32_71
  v232
def k1_mult14 (k1_t1 : Fin k1_t1_loop.trips) : BitVec 32 :=
  let c0_i32_16 : BitVec 32 := 0#32
  let c0_i32 : BitVec 32 := 0#32
  let c1_i32 : BitVec 32 := 1#32
  let arg8 : BitVec 32 := Scf.iv c0_i32 c1_i32 k1_t1
  let c1_i32_15 : BitVec 32 := 1#32
  let v26 : BitVec 32 := Scalar.muli arg8 c1_i32_15
  let v27 : BitVec 32 := Scalar.addi c0_i32_16 v26
  let c8_i32_73 : BitVec 32 := 8#32
  let v238 : BitVec 32 := Scalar.muli v27 c8_i32_73
  let c6_i32 : BitVec 32 := 6#32
  let v239 : BitVec 32 := Scalar.addi v238 c6_i32
  let c32_i32_76 : BitVec 32 := 32#32
  let v252 : BitVec 32 := Scalar.muli v239 c32_i32_76
  let c0_i32_77 : BitVec 32 := 0#32
  let v253 : BitVec 32 := Scalar.addi v252 c0_i32_77
  v253
def k1_mult15 (k1_t1 : Fin k1_t1_loop.trips) : BitVec 32 :=
  let c0_i32_16 : BitVec 32 := 0#32
  let c0_i32 : BitVec 32 := 0#32
  let c1_i32 : BitVec 32 := 1#32
  let arg8 : BitVec 32 := Scf.iv c0_i32 c1_i32 k1_t1
  let c1_i32_15 : BitVec 32 := 1#32
  let v26 : BitVec 32 := Scalar.muli arg8 c1_i32_15
  let v27 : BitVec 32 := Scalar.addi c0_i32_16 v26
  let c8_i32_73 : BitVec 32 := 8#32
  let v238 : BitVec 32 := Scalar.muli v27 c8_i32_73
  let c6_i32 : BitVec 32 := 6#32
  let v239 : BitVec 32 := Scalar.addi v238 c6_i32
  let c32_i32_79 : BitVec 32 := 32#32
  let v263 : BitVec 32 := Scalar.muli v239 c32_i32_79
  let c16_i32_80 : BitVec 32 := 16#32
  let v264 : BitVec 32 := Scalar.addi v263 c16_i32_80
  v264
def k1_mult16 (k1_t1 : Fin k1_t1_loop.trips) : BitVec 32 :=
  let c0_i32_16 : BitVec 32 := 0#32
  let c0_i32 : BitVec 32 := 0#32
  let c1_i32 : BitVec 32 := 1#32
  let arg8 : BitVec 32 := Scf.iv c0_i32 c1_i32 k1_t1
  let c1_i32_15 : BitVec 32 := 1#32
  let v26 : BitVec 32 := Scalar.muli arg8 c1_i32_15
  let v27 : BitVec 32 := Scalar.addi c0_i32_16 v26
  let c8_i32_82 : BitVec 32 := 8#32
  let v270 : BitVec 32 := Scalar.muli v27 c8_i32_82
  let c7_i32 : BitVec 32 := 7#32
  let v271 : BitVec 32 := Scalar.addi v270 c7_i32
  let c32_i32_85 : BitVec 32 := 32#32
  let v284 : BitVec 32 := Scalar.muli v271 c32_i32_85
  let c0_i32_86 : BitVec 32 := 0#32
  let v285 : BitVec 32 := Scalar.addi v284 c0_i32_86
  v285
def k1_mult17 (k1_t1 : Fin k1_t1_loop.trips) : BitVec 32 :=
  let c0_i32_16 : BitVec 32 := 0#32
  let c0_i32 : BitVec 32 := 0#32
  let c1_i32 : BitVec 32 := 1#32
  let arg8 : BitVec 32 := Scf.iv c0_i32 c1_i32 k1_t1
  let c1_i32_15 : BitVec 32 := 1#32
  let v26 : BitVec 32 := Scalar.muli arg8 c1_i32_15
  let v27 : BitVec 32 := Scalar.addi c0_i32_16 v26
  let c8_i32_82 : BitVec 32 := 8#32
  let v270 : BitVec 32 := Scalar.muli v27 c8_i32_82
  let c7_i32 : BitVec 32 := 7#32
  let v271 : BitVec 32 := Scalar.addi v270 c7_i32
  let c32_i32_88 : BitVec 32 := 32#32
  let v295 : BitVec 32 := Scalar.muli v271 c32_i32_88
  let c16_i32_89 : BitVec 32 := 16#32
  let v296 : BitVec 32 := Scalar.addi v295 c16_i32_89
  v296
def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S256x9216 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S256x4608 .i8 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S288x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]
-- ==== ReferenceIdeal.lean ====
abbrev S256x1x4608 : Shape := ⟨3, ![256, 1, 4608]⟩
abbrev S9216x2304 : Shape := ⟨2, ![9216, 2304]⟩
abbrev S9216x144 : Shape := ⟨2, ![9216, 144]⟩
abbrev S4608x4608 : Shape := ⟨2, ![4608, 4608]⟩
abbrev S4608x288 : Shape := ⟨2, ![4608, 288]⟩
abbrev S256x4608 : Shape := ⟨2, ![256, 4608]⟩
abbrev S9216x144x16 : Shape := ⟨3, ![9216, 144, 16]⟩
abbrev S_ : Shape := ⟨0, ![]⟩
abbrev S9216x4608 : Shape := ⟨2, ![9216, 4608]⟩
abbrev S256x144x2x16 : Shape := ⟨4, ![256, 144, 2, 16]⟩
abbrev S256x2x144x16 : Shape := ⟨4, ![256, 2, 144, 16]⟩
abbrev S256x9216 : Shape := ⟨2, ![256, 9216]⟩
abbrev S4608x288x16 : Shape := ⟨3, ![4608, 288, 16]⟩
abbrev S4608x9216 : Shape := ⟨2, ![4608, 9216]⟩
abbrev S256x288x2x16 : Shape := ⟨4, ![256, 288, 2, 16]⟩
abbrev S256x2x288x16 : Shape := ⟨4, ![256, 2, 288, 16]⟩

abbrev nBuf : Space → Nat
  | .hbm => 99
  | .vmem => 0
  | .smem => 0
  | _ => 0

abbrev bufTy : (tb : Table) → Fin (tcTables nBuf tb) → BufTy
  | .hbm, ⟨0, _⟩ => ⟨S256x1x4608, .bf16⟩
  | .hbm, ⟨1, _⟩ => ⟨S9216x2304, .i8⟩
  | .hbm, ⟨2, _⟩ => ⟨S9216x144, .f32⟩
  | .hbm, ⟨3, _⟩ => ⟨S9216x2304, .i8⟩
  | .hbm, ⟨4, _⟩ => ⟨S9216x144, .f32⟩
  | .hbm, ⟨5, _⟩ => ⟨S4608x4608, .i8⟩
  | .hbm, ⟨6, _⟩ => ⟨S4608x288, .f32⟩
  | .hbm, ⟨7, _⟩ => ⟨S256x4608, .bf16⟩
  | .hbm, ⟨8, _⟩ => ⟨S9216x2304, .i32⟩
  | .hbm, ⟨9, _⟩ => ⟨S9216x144x16, .f32⟩
  | .hbm, ⟨10, _⟩ => ⟨S9216x2304, .f32⟩
  | .hbm, ⟨11, _⟩ => ⟨S_, .i32⟩
  | .hbm, ⟨12, _⟩ => ⟨S9216x2304, .i32⟩
  | .hbm, ⟨13, _⟩ => ⟨S9216x2304, .i32⟩
  | .hbm, ⟨14, _⟩ => ⟨S9216x2304, .f32⟩
  | .hbm, ⟨15, _⟩ => ⟨S_, .f32⟩
  | .hbm, ⟨16, _⟩ => ⟨S9216x2304, .f32⟩
  | .hbm, ⟨17, _⟩ => ⟨S9216x2304, .f32⟩
  | .hbm, ⟨18, _⟩ => ⟨S9216x2304, .f32⟩
  | .hbm, ⟨19, _⟩ => ⟨S9216x2304, .bf16⟩
  | .hbm, ⟨20, _⟩ => ⟨S_, .i32⟩
  | .hbm, ⟨21, _⟩ => ⟨S9216x2304, .i32⟩
  | .hbm, ⟨22, _⟩ => ⟨S9216x2304, .i32⟩
  | .hbm, ⟨23, _⟩ => ⟨S9216x2304, .f32⟩
  | .hbm, ⟨24, _⟩ => ⟨S_, .f32⟩
  | .hbm, ⟨25, _⟩ => ⟨S9216x2304, .f32⟩
  | .hbm, ⟨26, _⟩ => ⟨S9216x2304, .f32⟩
  | .hbm, ⟨27, _⟩ => ⟨S9216x2304, .f32⟩
  | .hbm, ⟨28, _⟩ => ⟨S9216x2304, .bf16⟩
  | .hbm, ⟨29, _⟩ => ⟨S9216x4608, .bf16⟩
  | .hbm, ⟨30, _⟩ => ⟨S256x144x2x16, .bf16⟩
  | .hbm, ⟨31, _⟩ => ⟨S256x2x144x16, .bf16⟩
  | .hbm, ⟨32, _⟩ => ⟨S256x4608, .bf16⟩
  | .hbm, ⟨33, _⟩ => ⟨S256x9216, .f32⟩
  | .hbm, ⟨34, _⟩ => ⟨S9216x2304, .i32⟩
  | .hbm, ⟨35, _⟩ => ⟨S9216x144x16, .f32⟩
  | .hbm, ⟨36, _⟩ => ⟨S9216x2304, .f32⟩
  | .hbm, ⟨37, _⟩ => ⟨S_, .i32⟩
  | .hbm, ⟨38, _⟩ => ⟨S9216x2304, .i32⟩
  | .hbm, ⟨39, _⟩ => ⟨S9216x2304, .i32⟩
  | .hbm, ⟨40, _⟩ => ⟨S9216x2304, .f32⟩
  | .hbm, ⟨41, _⟩ => ⟨S_, .f32⟩
  | .hbm, ⟨42, _⟩ => ⟨S9216x2304, .f32⟩
  | .hbm, ⟨43, _⟩ => ⟨S9216x2304, .f32⟩
  | .hbm, ⟨44, _⟩ => ⟨S9216x2304, .f32⟩
  | .hbm, ⟨45, _⟩ => ⟨S9216x2304, .bf16⟩
  | .hbm, ⟨46, _⟩ => ⟨S_, .i32⟩
  | .hbm, ⟨47, _⟩ => ⟨S9216x2304, .i32⟩
  | .hbm, ⟨48, _⟩ => ⟨S9216x2304, .i32⟩
  | .hbm, ⟨49, _⟩ => ⟨S9216x2304, .f32⟩
  | .hbm, ⟨50, _⟩ => ⟨S_, .f32⟩
  | .hbm, ⟨51, _⟩ => ⟨S9216x2304, .f32⟩
  | .hbm, ⟨52, _⟩ => ⟨S9216x2304, .f32⟩
  | .hbm, ⟨53, _⟩ => ⟨S9216x2304, .f32⟩
  | .hbm, ⟨54, _⟩ => ⟨S9216x2304, .bf16⟩
  | .hbm, ⟨55, _⟩ => ⟨S9216x4608, .bf16⟩
  | .hbm, ⟨56, _⟩ => ⟨S256x144x2x16, .bf16⟩
  | .hbm, ⟨57, _⟩ => ⟨S256x2x144x16, .bf16⟩
  | .hbm, ⟨58, _⟩ => ⟨S256x4608, .bf16⟩
  | .hbm, ⟨59, _⟩ => ⟨S256x9216, .f32⟩
  | .hbm, ⟨60, _⟩ => ⟨S256x9216, .f32⟩
  | .hbm, ⟨61, _⟩ => ⟨S256x9216, .f32⟩
  | .hbm, ⟨62, _⟩ => ⟨S_, .f32⟩
  | .hbm, ⟨63, _⟩ => ⟨S256x9216, .f32⟩
  | .hbm, ⟨64, _⟩ => ⟨S256x9216, .f32⟩
  | .hbm, ⟨65, _⟩ => ⟨S_, .f32⟩
  | .hbm, ⟨66, _⟩ => ⟨S256x9216, .f32⟩
  | .hbm, ⟨67, _⟩ => ⟨S256x9216, .f32⟩
  | .hbm, ⟨68, _⟩ => ⟨S256x9216, .f32⟩
  | .hbm, ⟨69, _⟩ => ⟨S256x9216, .f32⟩
  | .hbm, ⟨70, _⟩ => ⟨S256x9216, .bf16⟩
  | .hbm, ⟨71, _⟩ => ⟨S4608x4608, .i32⟩
  | .hbm, ⟨72, _⟩ => ⟨S4608x288x16, .f32⟩
  | .hbm, ⟨73, _⟩ => ⟨S4608x4608, .f32⟩
  | .hbm, ⟨74, _⟩ => ⟨S_, .i32⟩
  | .hbm, ⟨75, _⟩ => ⟨S4608x4608, .i32⟩
  | .hbm, ⟨76, _⟩ => ⟨S4608x4608, .i32⟩
  | .hbm, ⟨77, _⟩ => ⟨S4608x4608, .f32⟩
  | .hbm, ⟨78, _⟩ => ⟨S_, .f32⟩
  | .hbm, ⟨79, _⟩ => ⟨S4608x4608, .f32⟩
  | .hbm, ⟨80, _⟩ => ⟨S4608x4608, .f32⟩
  | .hbm, ⟨81, _⟩ => ⟨S4608x4608, .f32⟩
  | .hbm, ⟨82, _⟩ => ⟨S4608x4608, .bf16⟩
  | .hbm, ⟨83, _⟩ => ⟨S_, .i32⟩
  | .hbm, ⟨84, _⟩ => ⟨S4608x4608, .i32⟩
  | .hbm, ⟨85, _⟩ => ⟨S4608x4608, .i32⟩
  | .hbm, ⟨86, _⟩ => ⟨S4608x4608, .f32⟩
  | .hbm, ⟨87, _⟩ => ⟨S_, .f32⟩
  | .hbm, ⟨88, _⟩ => ⟨S4608x4608, .f32⟩
  | .hbm, ⟨89, _⟩ => ⟨S4608x4608, .f32⟩
  | .hbm, ⟨90, _⟩ => ⟨S4608x4608, .f32⟩
  | .hbm, ⟨91, _⟩ => ⟨S4608x4608, .bf16⟩
  | .hbm, ⟨92, _⟩ => ⟨S4608x9216, .bf16⟩
  | .hbm, ⟨93, _⟩ => ⟨S256x288x2x16, .bf16⟩
  | .hbm, ⟨94, _⟩ => ⟨S256x2x288x16, .bf16⟩
  | .hbm, ⟨95, _⟩ => ⟨S256x9216, .bf16⟩
  | .hbm, ⟨96, _⟩ => ⟨S256x4608, .f32⟩
  | .hbm, ⟨97, _⟩ => ⟨S256x4608, .bf16⟩
  | .hbm, ⟨98, _⟩ => ⟨S256x1x4608, .bf16⟩
  | _, _ => ⟨S256x1x4608, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_c_2 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_3 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_c_4 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_5 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_call0_v0 : Ref sig .tc := ⟨.hbm, 60, rfl⟩
abbrev main_call0_v1 : Ref sig .tc := ⟨.hbm, 61, rfl⟩
abbrev main_call0_cst : Ref sig .tc := ⟨.hbm, 62, rfl⟩
abbrev main_call0_v2 : Ref sig .tc := ⟨.hbm, 63, rfl⟩
abbrev main_call0_v3 : Ref sig .tc := ⟨.hbm, 64, rfl⟩
abbrev main_call0_cst_0 : Ref sig .tc := ⟨.hbm, 65, rfl⟩
abbrev main_call0_v4 : Ref sig .tc := ⟨.hbm, 66, rfl⟩
abbrev main_call0_v5 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_c_6 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_7 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_c_8 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_9 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩

abbrev nD : Nat := 1
abbrev τ : Topo := Topo.v7x

variable {F : FTy → Type} [FloatOps F]
-- ==== Proof.Run.lean ====
module

public import proofs.«01_k».proof.Proof.Gen.KernelIdeal.Frame

@[expose] public section

set_option maxRecDepth 16384

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The kernel's run, with its result: every fair execution ends, the result array holding what the last stretch of host
    operations leaves in it, the arguments unchanged. -/
theorem run_result : θ_run defs (onTc (τ := τ) (main (F := F))) ⟨m, fun _ => 0, ρ⟩ (fun r => ∀ c : Dev nD,
      r.2.mem ((c.tc : Thread nD τ).loc main_v6) = W4 m ρ c (Proc.devRef .tc main_v6)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ c =>
      ⟨h c _ (mem_uc main_v6 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c)⟩)

end Cert.Proof

end
-- ==== Proof.Codes.lean ====
/- What the kernel's bit arithmetic on packed codes gives, at every element: four code bytes are handled as one 32-bit
   word, and byte by byte the word operations are byte operations. -/
module

public import proofs.«01_k».proof.Proof.Gen.KernelIdeal.Skeleton
public import Idealize.ShloMosaic.Lib.BitcastFour
public import Idealize.ShloMosaic.Lib.Pipeline.Value
public import Idealize.ShloMosaic.Lib.ValueIdx

@[expose] public section

noncomputable section

namespace Cert.Proof

open Cert.KernelIdeal Cert.KernelIdeal.Gen
open Idealize.ShloMosaic Idealize.ShloMosaic.TcCoe

variable {F : FTy → Type} [FloatOps F]

/-- The word constant of the sign flip has the bit pattern 0x88 in every byte. -/
theorem sign_bit (q : ℕ) (hq : q < 32) : (2290649224#32 : BitVec 32).getLsbD q = (0x88#8 : BitVec 8).getLsbD (q % 8) := by
  interval_cases q <;> rfl

/-- The word constant of the nibble mask has the bit pattern 0xF0 in every byte. -/
theorem mask_bit (q : ℕ) (hq : q < 32) : (4042322160#32 : BitVec 32).getLsbD q = (0xF0#8 : BitVec 8).getLsbD (q % 8) := by
  interval_cases q <;> rfl

/-- Words read back as bytes: bit `i` of byte row `p` is bit `8 (p % 4) + i` of word row `p / 4`. -/
theorem bitcast_32_8_getLsbD (x : S32x256.Idx → BitVec 32) (p : Fin 128) (l : Fin 256) (i : ℕ) (hi : i < 8) :
    (bitcast S128x256 8 x bitcasts_S32x256_w32_S128x256_w8 (ValueIdx.ix2 p l)).getLsbD i
      = (x (ValueIdx.ix2 (⟨p.val / 4, by omega⟩ : Fin 32) l)).getLsbD (8 * (p.val % 4) + i) := by
  rw [bitcast_getLsbD x bitcasts_S32x256_w32_S128x256_w8 _ i hi (by decide)]
  have hrow : S128x256.row (ValueIdx.ix2 p l) = p.val := rfl
  congr 1
  · congr 1
    funext c
    match c with
    | ⟨0, _⟩ =>
      refine Fin.ext ((Shape.Bitcasts.srcIdx_row _ _ _ _ ⟨0, Nat.zero_lt_two⟩ rfl).trans ?_)
      show (S128x256.row (ValueIdx.ix2 p l) * 8 + i) / 32 = p.val / 4
      rw [hrow]; omega
    | ⟨1, _⟩ => exact Fin.ext (Shape.Bitcasts.srcIdx_other _ _ _ _ ⟨1, Nat.one_lt_two⟩ (by show ¬ 1 + 2 = 2; omega))
  · rw [hrow]; omega

/-- The bytes of the transposed code tile, read as words: bit `8 (p % 4) + i` of word `p / 4` is bit `i` of byte `p`. -/
theorem word_bit (q : Vec F S256x128 .i8) (p : Fin 128) (l : Fin 256) (i : ℕ) (hi : i < 8) :
    (bitcast S32x256 32 (transpose S128x256 [1, 0] q transposes_S256x128_p1_0_S128x256)
        bitcasts_S128x256_w8_S32x256_w32 (ValueIdx.ix2 (⟨p.val / 4, by omega⟩ : Fin 32) l)).getLsbD (8 * (p.val % 4) + i)
      = (q (ValueIdx.ix2 l p) : BitVec 8).getLsbD i := by
  rw [bitcast_8_32_getLsbD_ix2 _ bitcasts_S128x256_w8_S32x256_w32 _ l _ (by omega) p (by show p.val = 4 * (p.val / 4) + _; omega)]
  rw [transpose_apply [1, 0] q transposes_S256x128_p1_0_S128x256 (ValueIdx.ix2 p l) (ValueIdx.ix2 l p)
    (fun b => match b with
      | ⟨0, _⟩ => rfl
      | ⟨1, _⟩ => rfl)]
  congr 1; omega

/-- The high-nibble bytes: `(q ⊕ 0x88) ∧ 0xF0`, as numbers. -/
theorem pay2_eq (q : Vec F S256x128 .i8) (p : Fin 128) (l : Fin 256) :
    k0_pay2 q (ValueIdx.ix2 p l)
      = FloatOps.sitofp .bf16 (((q (ValueIdx.ix2 l p) : BitVec 8) ^^^ 0x88#8) &&& 0xF0#8) := by
  show FloatOps.sitofp .bf16 (bitcast S128x256 8 _ bitcasts_S32x256_w32_S128x256_w8 (ValueIdx.ix2 p l)) = _
  congr 1
  apply BitVec.eq_of_getLsbD_eq
  intro i hi
  rw [bitcast_32_8_getLsbD _ p l i hi]
  show (IntOp.andi (IntOp.xori (bitcast S32x256 32 (transpose S128x256 [1, 0] q transposes_S256x128_p1_0_S128x256)
        bitcasts_S128x256_w8_S32x256_w32 (ValueIdx.ix2 (⟨p.val / 4, by omega⟩ : Fin 32) l)) 2290649224#32) 4042322160#32).getLsbD _ = _
  unfold IntOp.andi IntOp.xori
  rw [BitVec.getLsbD_and, BitVec.getLsbD_xor, word_bit q p l i hi, sign_bit _ (by omega), mask_bit _ (by omega),
    BitVec.getLsbD_and, BitVec.getLsbD_xor, show (8 * (p.val % 4) + i) % 8 = i by omega]

/-- The low-nibble bytes: `((q ⊕ 0x88) ≪ 4) ∧ 0xF0`, as numbers: bits shifted in from the byte below are masked off. -/
theorem pay3_eq (q : Vec F S256x128 .i8) (p : Fin 128) (l : Fin 256) :
    k0_pay3 q (ValueIdx.ix2 p l)
      = FloatOps.sitofp .bf16 ((((q (ValueIdx.ix2 l p) : BitVec 8) ^^^ 0x88#8) <<< 4) &&& 0xF0#8) := by
  show FloatOps.sitofp .bf16 (bitcast S128x256 8 _ bitcasts_S32x256_w32_S128x256_w8 (ValueIdx.ix2 p l)) = _
  congr 1
  apply BitVec.eq_of_getLsbD_eq
  intro i hi
  rw [bitcast_32_8_getLsbD _ p l i hi]
  show (IntOp.andi (IntOp.shli .vector (IntOp.xori (bitcast S32x256 32 (transpose S128x256 [1, 0] q transposes_S256x128_p1_0_S128x256)
        bitcasts_S128x256_w8_S32x256_w32 (ValueIdx.ix2 (⟨p.val / 4, by omega⟩ : Fin 32) l)) 2290649224#32) 4#32) 4042322160#32).getLsbD _ = _
  unfold IntOp.andi IntOp.xori IntOp.shli
  rw [if_pos (by decide), BitVec.getLsbD_and, mask_bit _ (by omega), BitVec.getLsbD_and,
    show (8 * (p.val % 4) + i) % 8 = i by omega]
  by_cases h4 : 4 ≤ i
  · congr 1
    rw [BitVec.shiftLeft_eq', show (4#32).toNat = 4 from rfl, BitVec.getLsbD_shiftLeft, BitVec.getLsbD_shiftLeft,
      show 8 * (p.val % 4) + i - 4 = 8 * (p.val % 4) + (i - 4) by omega, BitVec.getLsbD_xor, BitVec.getLsbD_xor,
      word_bit q p l (i - 4) (by omega), sign_bit _ (by omega), show (8 * (p.val % 4) + (i - 4)) % 8 = i - 4 by omega]
    have e1 : decide (8 * (p.val % 4) + i < 32) = true := decide_eq_true (by omega)
    have e2 : decide (8 * (p.val % 4) + i < 4) = false := decide_eq_false (by omega)
    have e3 : decide (i < 8) = true := decide_eq_true hi
    have e4 : decide (i < 4) = false := decide_eq_false (by omega)
    rw [e1, e2, e3, e4]
  · have hm : (0xF0#8 : BitVec 8).getLsbD i = false := by
      have : i < 4 := by omega
      interval_cases i <;> rfl
    rw [hm, Bool.and_false, Bool.and_false]

/-- Sixteen times the high nibble less eight. -/
theorem hi_toInt : ∀ b : BitVec 8, (((b ^^^ 0x88#8) &&& 0xF0#8).toInt : ℤ) = 16 * (((b >>> 4).toNat : ℤ) - 8) := by decide +kernel

/-- Sixteen times the low nibble less eight. -/
theorem lo_toInt : ∀ b : BitVec 8, ((((b ^^^ 0x88#8) <<< 4) &&& 0xF0#8).toInt : ℤ) = 16 * (((b &&& 15#8).toNat : ℤ) - 8) := by
  decide +kernel

end Cert.Proof

end
-- ==== Proof.Pieces.lean ====
/- What one trip of each dequantisation loop stores: sixteen blocks of sixteen weight rows, each block the codes of one
   nibble half of one group times the two parts of the group's scale. -/
module

public import proofs.«01_k».proof.Proof.Gen.KernelIdeal.Loops

@[expose] public section

noncomputable section

namespace Cert.Proof

open Cert.KernelIdeal Cert.KernelIdeal.Gen
open Idealize.ShloMosaic Idealize.ShloMosaic.TcCoe

variable {F : FTy → Type} [FloatOps F]

/-- Sixteen rows of a chunk's 128 code rows. -/
theorem slices16 (g : Fin 8) : S128x256.Slices ![16 * g.val, 0] S16x256 := by
  revert g; decide

/-- Sixteen weight rows: the codes of group `g` of the chunk times the high part of the scale plus the codes times the low
    part. -/
def rows (g : Fin 8) (codes : FVec F S128x256 .bf16) (rh rl : Vec F S1x2x256 .bf16) : FVec F S16x256 .bf16 :=
  shapeCast S16x256
    (addf (mulf (extractStridedSlice S16x256 ![16 * g.val, 0] codes (slices16 g)) (k0_pay4 rh))
      (mulf (extractStridedSlice S16x256 ![16 * g.val, 0] codes (slices16 g)) (k0_pay5 rl))) shapeCasts_S16x256_S16x256

/-- The code rows of one nibble half: 0 the low nibbles, 1 the high ones. -/
def codes (q : Vec F S256x128 .i8) (b : Fin 2) : FVec F S128x256 .bf16 := if b.val = 0 then k0_pay3 q else k0_pay2 q

/-- All sixteen blocks of a trip hold a property when each does. -/
theorem forall_blocks {α : Type} (P : Fin 8 → Fin 2 → α) (Q : α → Prop) (h : ∀ g b, Q (P g b)) :
    ∀ p ∈ [P 7 1, P 7 0, P 6 1, P 6 0, P 5 1, P 5 0, P 4 1, P 4 0, P 3 1, P 3 0, P 2 1, P 2 0, P 1 1, P 1 0, P 0 1, P 0 0], Q p := by
  intro p hp
  simp only [List.mem_cons, List.not_mem_nil, or_false] at hp
  rcases hp with rfl | rfl | rfl | rfl | rfl | rfl | rfl | rfl | rfl | rfl | rfl | rfl | rfl | rfl | rfl | rfl <;> exact h _ _

/-- Block `(g, b)` that trip `k` of the gate loop stores. -/
def blk_gate (q : Memref sig .tc .vmem S256x2304 .i8) (sh sl : Memref sig .tc .vmem S144x2x256 .bf16) (Xq : BufTy.Contents (Elt F) q.view.ty)
    (Xh : BufTy.Contents (Elt F) sh.view.ty) (Xl : BufTy.Contents (Elt F) sl.view.ty) (k : Fin k0_t1_loop.trips) (g : Fin 8) (b : Fin 2) :
    View.Piece (Elt F) S4608x256 .bf16 :=
  ⟨Rect.unit (s := S4608x256) (k0_off3 k (BitVec.ofNat 32 g.val) (BitVec.ofNat 32 (16 * b.val))) S16x256.size (k0_off3_inb k g b),
    rows g (codes (q.view.readAt (Elt F) (Rect.unit (s := S256x2304) (k0_off1 k) S256x128.size (k0_off1_inb k)).toLoadRect Xq) b)
      (sh.view.readAt (Elt F) (Rect.unit (s := S144x2x256) (k0_off2 k (BitVec.ofNat 32 g.val)) S1x2x256.size (k0_off2_inb k g)).toLoadRect Xh)
      (sl.view.readAt (Elt F) (Rect.unit (s := S144x2x256) (k0_off2 k (BitVec.ofNat 32 g.val)) S1x2x256.size (k0_off2_inb k g)).toLoadRect Xl)⟩

set_option maxRecDepth 100000 in
/-- The stores of trip `k` of the gate loop, last first. -/
theorem tripL_gate (𝒱 : Variants) (c : Dev nD) (bd : Option 𝒱.V) (i : grid0.Coords) (arg1 : Memref sig .tc .vmem S256x4608 .bf16) (harg1 : arg1.IsWhole) (arg2 : Memref sig .tc .vmem S256x2304 .i8) (harg2 : arg2.IsWhole) (arg3 : Memref sig .tc .vmem S144x256 .f32) (harg3 : arg3.IsWhole) (arg4 : Memref sig .tc .vmem S256x2304 .i8) (harg4 : arg4.IsWhole) (arg5 : Memref sig .tc .vmem S144x256 .f32) (harg5 : arg5.IsWhole) (arg6 : Memref sig .tc .vmem S256x256 .bf16) (harg6 : arg6.IsWhole) (arg7 : Memref sig .tc .vmem S144x2x256 .bf16) (harg7 : arg7.IsWhole) (arg8 : Memref sig .tc .vmem S144x2x256 .bf16) (harg8 : arg8.IsWhole) (arg9 : Memref sig .tc .vmem S4608x256 .bf16) (harg9 : arg9.IsWhole) (arg10 : Memref sig .tc .vmem S4608x256 .bf16) (harg10 : arg10.IsWhole) (X_arg2 : BufTy.Contents (Elt F) arg2.view.ty) (X_arg7 : BufTy.Contents (Elt F) arg7.view.ty) (X_arg8 : BufTy.Contents (Elt F) arg8.view.ty) (k : Fin k0_t1_loop.trips) :
    (tripL_k0_t1 (F := F) 𝒱 c bd i arg1 harg1 arg2 harg2 arg3 harg3 arg4 harg4 arg5 harg5 arg6 harg6 arg7 harg7 arg8 harg8 arg9 harg9 arg10 harg10 X_arg2 X_arg7 X_arg8 k)
      = [blk_gate arg2 arg7 arg8 X_arg2 X_arg7 X_arg8 k 7 1, blk_gate arg2 arg7 arg8 X_arg2 X_arg7 X_arg8 k 7 0, blk_gate arg2 arg7 arg8 X_arg2 X_arg7 X_arg8 k 6 1, blk_gate arg2 arg7 arg8 X_arg2 X_arg7 X_arg8 k 6 0, blk_gate arg2 arg7 arg8 X_arg2 X_arg7 X_arg8 k 5 1, blk_gate arg2 arg7 arg8 X_arg2 X_arg7 X_arg8 k 5 0, blk_gate arg2 arg7 arg8 X_arg2 X_arg7 X_arg8 k 4 1, blk_gate arg2 arg7 arg8 X_arg2 X_arg7 X_arg8 k 4 0, blk_gate arg2 arg7 arg8 X_arg2 X_arg7 X_arg8 k 3 1, blk_gate arg2 arg7 arg8 X_arg2 X_arg7 X_arg8 k 3 0, blk_gate arg2 arg7 arg8 X_arg2 X_arg7 X_arg8 k 2 1, blk_gate arg2 arg7 arg8 X_arg2 X_arg7 X_arg8 k 2 0, blk_gate arg2 arg7 arg8 X_arg2 X_arg7 X_arg8 k 1 1, blk_gate arg2 arg7 arg8 X_arg2 X_arg7 X_arg8 k 1 0, blk_gate arg2 arg7 arg8 X_arg2 X_arg7 X_arg8 k 0 1, blk_gate arg2 arg7 arg8 X_arg2 X_arg7 X_arg8 k 0 0] := by
  unfold tripL_k0_t1 trip_k0_t1
  rfl

/-- Block `(g, b)` that trip `k` of the up loop stores. -/
def blk_up (q : Memref sig .tc .vmem S256x2304 .i8) (sh sl : Memref sig .tc .vmem S144x2x256 .bf16) (Xq : BufTy.Contents (Elt F) q.view.ty)
    (Xh : BufTy.Contents (Elt F) sh.view.ty) (Xl : BufTy.Contents (Elt F) sl.view.ty) (k : Fin k0_t2_loop.trips) (g : Fin 8) (b : Fin 2) :
    View.Piece (Elt F) S4608x256 .bf16 :=
  ⟨Rect.unit (s := S4608x256) (k0_off6 k (BitVec.ofNat 32 g.val) (BitVec.ofNat 32 (16 * b.val))) S16x256.size (k0_off6_inb k g b),
    rows g (codes (q.view.readAt (Elt F) (Rect.unit (s := S256x2304) (k0_off4 k) S256x128.size (k0_off4_inb k)).toLoadRect Xq) b)
      (sh.view.readAt (Elt F) (Rect.unit (s := S144x2x256) (k0_off5 k (BitVec.ofNat 32 g.val)) S1x2x256.size (k0_off5_inb k g)).toLoadRect Xh)
      (sl.view.readAt (Elt F) (Rect.unit (s := S144x2x256) (k0_off5 k (BitVec.ofNat 32 g.val)) S1x2x256.size (k0_off5_inb k g)).toLoadRect Xl)⟩

set_option maxRecDepth 100000 in
/-- The stores of trip `k` of the up loop, last first. -/
theorem tripL_up (𝒱 : Variants) (c : Dev nD) (bd : Option 𝒱.V) (i : grid0.Coords) (arg1 : Memref sig .tc .vmem S256x4608 .bf16) (harg1 : arg1.IsWhole) (arg2 : Memref sig .tc .vmem S256x2304 .i8) (harg2 : arg2.IsWhole) (arg3 : Memref sig .tc .vmem S144x256 .f32) (harg3 : arg3.IsWhole) (arg4 : Memref sig .tc .vmem S256x2304 .i8) (harg4 : arg4.IsWhole) (arg5 : Memref sig .tc .vmem S144x256 .f32) (harg5 : arg5.IsWhole) (arg6 : Memref sig .tc .vmem S256x256 .bf16) (harg6 : arg6.IsWhole) (arg7 : Memref sig .tc .vmem S144x2x256 .bf16) (harg7 : arg7.IsWhole) (arg8 : Memref sig .tc .vmem S144x2x256 .bf16) (harg8 : arg8.IsWhole) (arg9 : Memref sig .tc .vmem S4608x256 .bf16) (harg9 : arg9.IsWhole) (arg10 : Memref sig .tc .vmem S4608x256 .bf16) (harg10 : arg10.IsWhole) (v23 : FVec F S144x256 .f32) (v25 : FVec F S144x256 .f32) (cst_12 : F .f32) (X_arg4 : BufTy.Contents (Elt F) arg4.view.ty) (X_arg7 : BufTy.Contents (Elt F) arg7.view.ty) (X_arg8 : BufTy.Contents (Elt F) arg8.view.ty) (k : Fin k0_t2_loop.trips) :
    (tripL_k0_t2 (F := F) 𝒱 c bd i arg1 harg1 arg2 harg2 arg3 harg3 arg4 harg4 arg5 harg5 arg6 harg6 arg7 harg7 arg8 harg8 arg9 harg9 arg10 harg10 v23 v25 cst_12 X_arg4 X_arg7 X_arg8 k)
      = [blk_up arg4 arg7 arg8 X_arg4 X_arg7 X_arg8 k 7 1, blk_up arg4 arg7 arg8 X_arg4 X_arg7 X_arg8 k 7 0, blk_up arg4 arg7 arg8 X_arg4 X_arg7 X_arg8 k 6 1, blk_up arg4 arg7 arg8 X_arg4 X_arg7 X_arg8 k 6 0, blk_up arg4 arg7 arg8 X_arg4 X_arg7 X_arg8 k 5 1, blk_up arg4 arg7 arg8 X_arg4 X_arg7 X_arg8 k 5 0, blk_up arg4 arg7 arg8 X_arg4 X_arg7 X_arg8 k 4 1, blk_up arg4 arg7 arg8 X_arg4 X_arg7 X_arg8 k 4 0, blk_up arg4 arg7 arg8 X_arg4 X_arg7 X_arg8 k 3 1, blk_up arg4 arg7 arg8 X_arg4 X_arg7 X_arg8 k 3 0, blk_up arg4 arg7 arg8 X_arg4 X_arg7 X_arg8 k 2 1, blk_up arg4 arg7 arg8 X_arg4 X_arg7 X_arg8 k 2 0, blk_up arg4 arg7 arg8 X_arg4 X_arg7 X_arg8 k 1 1, blk_up arg4 arg7 arg8 X_arg4 X_arg7 X_arg8 k 1 0, blk_up arg4 arg7 arg8 X_arg4 X_arg7 X_arg8 k 0 1, blk_up arg4 arg7 arg8 X_arg4 X_arg7 X_arg8 k 0 0] := by
  unfold tripL_k0_t2 trip_k0_t2
  rfl

/-- Block `(g, b)` that trip `k` of the down loop stores. -/
def blk_down (q : Memref sig .tc .vmem S256x4608 .i8) (sh sl : Memref sig .tc .vmem S288x2x256 .bf16) (Xq : BufTy.Contents (Elt F) q.view.ty)
    (Xh : BufTy.Contents (Elt F) sh.view.ty) (Xl : BufTy.Contents (Elt F) sl.view.ty) (k : Fin k1_t1_loop.trips) (g : Fin 8) (b : Fin 2) :
    View.Piece (Elt F) S9216x256 .bf16 :=
  ⟨Rect.unit (s := S9216x256) (k1_off3 k (BitVec.ofNat 32 g.val) (BitVec.ofNat 32 (16 * b.val))) S16x256.size (k1_off3_inb k g b),
    rows g (codes (q.view.readAt (Elt F) (Rect.unit (s := S256x4608) (k1_off1 k) S256x128.size (k1_off1_inb k)).toLoadRect Xq) b)
      (sh.view.readAt (Elt F) (Rect.unit (s := S288x2x256) (k1_off2 k (BitVec.ofNat 32 g.val)) S1x2x256.size (k1_off2_inb k g)).toLoadRect Xh)
      (sl.view.readAt (Elt F) (Rect.unit (s := S288x2x256) (k1_off2 k (BitVec.ofNat 32 g.val)) S1x2x256.size (k1_off2_inb k g)).toLoadRect Xl)⟩

set_option maxRecDepth 100000 in
/-- The stores of trip `k` of the down loop, last first. -/
theorem tripL_down (𝒱 : Variants) (c : Dev nD) (bd : Option 𝒱.V) (i : grid1.Coords) (arg1 : Memref sig .tc .vmem S256x9216 .bf16) (harg1 : arg1.IsWhole) (arg2 : Memref sig .tc .vmem S256x4608 .i8) (harg2 : arg2.IsWhole) (arg3 : Memref sig .tc .vmem S288x256 .f32) (harg3 : arg3.IsWhole) (arg4 : Memref sig .tc .vmem S256x256 .bf16) (harg4 : arg4.IsWhole) (arg5 : Memref sig .tc .vmem S288x2x256 .bf16) (harg5 : arg5.IsWhole) (arg6 : Memref sig .tc .vmem S288x2x256 .bf16) (harg6 : arg6.IsWhole) (arg7 : Memref sig .tc .vmem S9216x256 .bf16) (harg7 : arg7.IsWhole) (X_arg2 : BufTy.Contents (Elt F) arg2.view.ty) (X_arg5 : BufTy.Contents (Elt F) arg5.view.ty) (X_arg6 : BufTy.Contents (Elt F) arg6.view.ty) (k : Fin k1_t1_loop.trips) :
    (tripL_k1_t1 (F := F) 𝒱 c bd i arg1 harg1 arg2 harg2 arg3 harg3 arg4 harg4 arg5 harg5 arg6 harg6 arg7 harg7 X_arg2 X_arg5 X_arg6 k)
      = [blk_down arg2 arg5 arg6 X_arg2 X_arg5 X_arg6 k 7 1, blk_down arg2 arg5 arg6 X_arg2 X_arg5 X_arg6 k 7 0, blk_down arg2 arg5 arg6 X_arg2 X_arg5 X_arg6 k 6 1, blk_down arg2 arg5 arg6 X_arg2 X_arg5 X_arg6 k 6 0, blk_down arg2 arg5 arg6 X_arg2 X_arg5 X_arg6 k 5 1, blk_down arg2 arg5 arg6 X_arg2 X_arg5 X_arg6 k 5 0, blk_down arg2 arg5 arg6 X_arg2 X_arg5 X_arg6 k 4 1, blk_down arg2 arg5 arg6 X_arg2 X_arg5 X_arg6 k 4 0, blk_down arg2 arg5 arg6 X_arg2 X_arg5 X_arg6 k 3 1, blk_down arg2 arg5 arg6 X_arg2 X_arg5 X_arg6 k 3 0, blk_down arg2 arg5 arg6 X_arg2 X_arg5 X_arg6 k 2 1, blk_down arg2 arg5 arg6 X_arg2 X_arg5 X_arg6 k 2 0, blk_down arg2 arg5 arg6 X_arg2 X_arg5 X_arg6 k 1 1, blk_down arg2 arg5 arg6 X_arg2 X_arg5 X_arg6 k 1 0, blk_down arg2 arg5 arg6 X_arg2 X_arg5 X_arg6 k 0 1, blk_down arg2 arg5 arg6 X_arg2 X_arg5 X_arg6 k 0 0] := by
  unfold tripL_k1_t1 trip_k1_t1
  rfl

end Cert.Proof

end
-- ==== Proof.Weights.lean ====
/- The blocks of weight rows of Pieces.lean, element by element, over extended reals. -/
module

public import proofs.«01_k».proof.Proof.Codes
public import proofs.«01_k».proof.Proof.Pieces
public import Idealize.ShloMosaic.Lib.Pointwise
public import Idealize.ShloMosaic.Lib.Writes

@[expose] public section

noncomputable section

namespace Cert.Proof

open Cert.KernelIdeal Cert.KernelIdeal.Gen
open Idealize.ShloMosaic Idealize.ShloMosaic.TcCoe

/-- A nibble of a code byte: 0 the low one, otherwise the high one. -/
def nib (b : BitVec 8) (h : ℕ) : ℤ := if h = 0 then ((b &&& 15#8).toNat : ℤ) else ((b >>> 4).toNat : ℤ)

/-- What the kernel's bytes hold: sixteen times the nibble less eight. -/
def code16 (b : BitVec 8) (h : ℕ) : EReal := (((16 * (nib b h - 8) : ℤ) : ℝ) : EReal)

/-- The code rows of either half, at an element. -/
theorem codes_apply (q : Vec Ideal S256x128 .i8) (b : Fin 2) (p : Fin 128) (l : Fin 256) :
    codes q b (ValueIdx.ix2 p l) = code16 (q (ValueIdx.ix2 l p)) b.val := by
  match b with
  | ⟨0, _⟩ =>
    show k0_pay3 q (ValueIdx.ix2 p l) = _
    rw [pay3_eq]
    show ((BitVec.toInt _ : ℝ) : EReal) = _
    rw [lo_toInt]; rfl
  | ⟨1, _⟩ =>
    show k0_pay2 q (ValueIdx.ix2 p l) = _
    rw [pay2_eq]
    show ((BitVec.toInt _ : ℝ) : EReal) = _
    rw [hi_toInt]; rfl

/-- Sixteen copies of a scale row, kept as eight rows of pairs: row `i` is the row's entry of parity `i % 2`. -/
theorem pay4_apply {F : FTy → Type} [FloatOps F] (r : Vec F S1x2x256 .bf16) (i : Fin 16) (l : Fin 256) :
    k0_pay4 r (ValueIdx.ix2 i l) = r (ValueIdx.ix3 (0 : Fin 1) (⟨i.val % 2, by omega⟩ : Fin 2) l) := by
  rw [← ix2_eq_valueIdx, ← ix3_eq_valueIdx]
  pointwise [k0_pay4]
  simp only [dite_eq_ite, ite_self]
  by_cases h : i.val % 2 = 0
  · rw [if_pos h]; congr 2; exact Fin.ext h.symm
  · rw [if_neg h]; congr 2; exact Fin.ext (by show 1 = i.val % 2; omega)

/-- The same for the second payload of that kind: the row of the pair its parity names. -/
theorem pay5_apply {F : FTy → Type} [FloatOps F] (r : Vec F S1x2x256 .bf16) (i : Fin 16) (l : Fin 256) :
    k0_pay5 r (ValueIdx.ix2 i l) = r (ValueIdx.ix3 (0 : Fin 1) (⟨i.val % 2, by omega⟩ : Fin 2) l) :=
  pay4_apply r i l

/-- A block of sixteen weight rows at an element. -/
theorem rows_apply (g : Fin 8) (b : Fin 2) (q : Vec Ideal S256x128 .i8) (rh rl : Vec Ideal S1x2x256 .bf16) (i : Fin 16) (l : Fin 256) :
    rows g (codes q b) rh rl (ValueIdx.ix2 i l)
      = code16 (q (ValueIdx.ix2 l (⟨16 * g.val + i.val, by omega⟩ : Fin 128))) b.val
          * rh (ValueIdx.ix3 (0 : Fin 1) (⟨i.val % 2, by omega⟩ : Fin 2) l)
        + code16 (q (ValueIdx.ix2 l (⟨16 * g.val + i.val, by omega⟩ : Fin 128))) b.val
          * rl (ValueIdx.ix3 (0 : Fin 1) (⟨i.val % 2, by omega⟩ : Fin 2) l) := by
  unfold rows
  rw [shapeCast_self, addf_apply, mulf_apply, mulf_apply, pay4_apply, pay5_apply,
    extractStridedSlice_apply ![16 * g.val, 0] (codes q b) (slices16 g) (ValueIdx.ix2 i l)
      (ValueIdx.ix2 (⟨16 * g.val + i.val, by omega⟩ : Fin 128) l)
      (fun a => match a with
        | ⟨0, _⟩ => rfl
        | ⟨1, _⟩ => (Nat.zero_add _).symm), codes_apply]
  rfl

/-- The weight tile the kernel builds: row `r` of column `l` is the code of byte `16 (r / 32) + r % 16` and of nibble half
    `r % 32 / 16`, times the high part of the scale of group `r / 32`, plus the same times its low part. -/
def wG {NQ NG NW : ℕ} (hQ : NQ = 16 * NG) (hW : NW = 32 * NG) (qf : (⟨2, ![256, NQ]⟩ : Shape).Idx → BitVec 8)
    (hf lf : (⟨3, ![NG, 2, 256]⟩ : Shape).Idx → EReal) (r : Fin NW) (l : Fin 256) : EReal :=
  code16 (qf (ValueIdx.ix2 l (⟨r.val / 32 * 16 + r.val % 16, by omega⟩ : Fin NQ))) (r.val % 32 / 16)
      * hf (ValueIdx.ix3 (⟨r.val / 32, by omega⟩ : Fin NG) (⟨r.val % 2, by omega⟩ : Fin 2) l)
    + code16 (qf (ValueIdx.ix2 l (⟨r.val / 32 * 16 + r.val % 16, by omega⟩ : Fin NQ))) (r.val % 32 / 16)
      * lf (ValueIdx.ix3 (⟨r.val / 32, by omega⟩ : Fin NG) (⟨r.val % 2, by omega⟩ : Fin 2) l)

/-- A block's rows are the weight tile's rows where the block is stored. -/
theorem rows_wG {NQ NG NW : ℕ} (hQ : NQ = 16 * NG) (hW : NW = 32 * NG) (qf : (⟨2, ![256, NQ]⟩ : Shape).Idx → BitVec 8)
    (hf lf : (⟨3, ![NG, 2, 256]⟩ : Shape).Idx → EReal) (k : ℕ) (g : Fin 8) (b : Fin 2)
    {o1 : Fin 2 → ℕ} (e1 : o1 = ![0, 128 * k]) (i1 : ∀ a, o1 a + S256x128.size a ≤ (⟨2, ![256, NQ]⟩ : Shape).size a)
    {o2 : Fin 3 → ℕ} (e2 : o2 = ![8 * k + g.val, 0, 0]) (i2 : ∀ a, o2 a + S1x2x256.size a ≤ (⟨3, ![NG, 2, 256]⟩ : Shape).size a)
    {o3 : Fin 2 → ℕ} (e3 : o3 = ![256 * k + 32 * g.val + 16 * b.val, 0])
    (i3 : ∀ a, o3 a + S16x256.size a ≤ (⟨2, ![NW, 256]⟩ : Shape).size a) (x : S16x256.Idx) :
    rows (F := Ideal) g (codes (fun j => qf ((Rect.unit (s := ⟨2, ![256, NQ]⟩) o1 S256x128.size i1).emb j)) b)
        (fun j => hf ((Rect.unit (s := ⟨3, ![NG, 2, 256]⟩) o2 S1x2x256.size i2).emb j))
        (fun j => lf ((Rect.unit (s := ⟨3, ![NG, 2, 256]⟩) o2 S1x2x256.size i2).emb j)) x
      = wG hQ hW qf hf lf ((Rect.unit (s := ⟨2, ![NW, 256]⟩) o3 S16x256.size i3).emb x 0)
          ((Rect.unit (s := ⟨2, ![NW, 256]⟩) o3 S16x256.size i3).emb x 1) := by
  subst e1 e2 e3
  obtain ⟨i, l, rfl⟩ : ∃ (i : Fin 16) (l : Fin 256), x = ValueIdx.ix2 i l := ⟨x 0, x 1, ValueIdx.eq_ix2 x⟩
  rw [rows_apply]
  have hi := i.isLt
  have hg := g.isLt
  have hb := b.isLt
  set E := (Rect.unit (s := ⟨2, ![NW, 256]⟩) ![256 * k + 32 * g.val + 16 * b.val, 0] S16x256.size i3).emb (ValueIdx.ix2 i l) with hE
  have r0 : (E 0).val = 256 * k + 32 * g.val + 16 * b.val + i.val := by
    show 256 * k + 32 * g.val + 16 * b.val + 1 * i.val = _; omega
  have r1 : E 1 = l := Fin.ext (by show 0 + 1 * l.val = _; omega)
  have a1 : (Rect.unit (s := ⟨2, ![256, NQ]⟩) ![0, 128 * k] S256x128.size i1).emb
      (ValueIdx.ix2 l (⟨16 * g.val + i.val, by omega⟩ : Fin 128))
      = ValueIdx.ix2 (E 1) (⟨(E 0).val / 32 * 16 + (E 0).val % 16, by have := (E 0).isLt; show _ < NQ; have h : (E 0).val < NW := this; omega⟩ : Fin NQ) :=
    Rect.emb_eq_of_coords _ _ _ (fun a => match a with
      | ⟨0, _⟩ => by rw [r1]; show l.val = 0 + 1 * l.val; omega
      | ⟨1, _⟩ => by show (E 0).val / 32 * 16 + (E 0).val % 16 = 128 * k + 1 * (16 * g.val + i.val); omega)
  have a2 : (Rect.unit (s := ⟨3, ![NG, 2, 256]⟩) ![8 * k + g.val, 0, 0] S1x2x256.size i2).emb
      (ValueIdx.ix3 (0 : Fin 1) (⟨i.val % 2, by omega⟩ : Fin 2) l)
      = ValueIdx.ix3 (⟨(E 0).val / 32, by have := (E 0).isLt; have h : (E 0).val < NW := this; omega⟩ : Fin NG)
          (⟨(E 0).val % 2, by omega⟩ : Fin 2) (E 1) :=
    Rect.emb_eq_of_coords _ _ _ (fun a => match a with
      | ⟨0, _⟩ => by show (E 0).val / 32 = 8 * k + g.val + 1 * 0; omega
      | ⟨1, _⟩ => by show (E 0).val % 2 = 0 + 1 * (i.val % 2); omega
      | ⟨2, _⟩ => by rw [r1]; show l.val = 0 + 1 * l.val; omega)
  have eb : (E 0).val % 32 / 16 = b.val := by omega
  unfold wG
  rw [a1, a2, eb]
  rfl

/-- Every block that the gate loop stores is a block of the weight tile. -/
theorem blk_gate_wG (q : Memref sig .tc .vmem S256x2304 .i8) (sh sl : Memref sig .tc .vmem S144x2x256 .bf16)
    (Xq : BufTy.Contents (Elt Ideal) q.view.ty) (Xh : BufTy.Contents (Elt Ideal) sh.view.ty) (Xl : BufTy.Contents (Elt Ideal) sl.view.ty)
    (k : Fin k0_t1_loop.trips) (g : Fin 8) (b : Fin 2) (x : (blk_gate q sh sl Xq Xh Xl k g b).1.shape.Idx) :
    (blk_gate q sh sl Xq Xh Xl k g b).2 x
      = wG (NG := 144) rfl rfl (q.view.read (Elt Ideal) Xq) (sh.view.read (Elt Ideal) Xh) (sl.view.read (Elt Ideal) Xl)
          ((blk_gate q sh sl Xq Xh Xl k g b).1.emb x 0) ((blk_gate q sh sl Xq Xh Xl k g b).1.emb x 1) :=
  rows_wG (NG := 144) rfl rfl _ _ _ k.val g b (k0_off1_eq k) (k0_off1_inb k) (k0_off2_eq k g) (k0_off2_inb k g) (k0_off3_eq k g b)
    (k0_off3_inb k g b) x

/-- Every block that the up loop stores is a block of the weight tile. -/
theorem blk_up_wG (q : Memref sig .tc .vmem S256x2304 .i8) (sh sl : Memref sig .tc .vmem S144x2x256 .bf16)
    (Xq : BufTy.Contents (Elt Ideal) q.view.ty) (Xh : BufTy.Contents (Elt Ideal) sh.view.ty) (Xl : BufTy.Contents (Elt Ideal) sl.view.ty)
    (k : Fin k0_t2_loop.trips) (g : Fin 8) (b : Fin 2) (x : (blk_up q sh sl Xq Xh Xl k g b).1.shape.Idx) :
    (blk_up q sh sl Xq Xh Xl k g b).2 x
      = wG (NG := 144) rfl rfl (q.view.read (Elt Ideal) Xq) (sh.view.read (Elt Ideal) Xh) (sl.view.read (Elt Ideal) Xl)
          ((blk_up q sh sl Xq Xh Xl k g b).1.emb x 0) ((blk_up q sh sl Xq Xh Xl k g b).1.emb x 1) :=
  rows_wG (NG := 144) rfl rfl _ _ _ k.val g b (k0_off4_eq k) (k0_off4_inb k) (k0_off5_eq k g) (k0_off5_inb k g) (k0_off6_eq k g b)
    (k0_off6_inb k g b) x

/-- Every block that the down loop stores is a block of the weight tile. -/
theorem blk_down_wG (q : Memref sig .tc .vmem S256x4608 .i8) (sh sl : Memref sig .tc .vmem S288x2x256 .bf16)
    (Xq : BufTy.Contents (Elt Ideal) q.view.ty) (Xh : BufTy.Contents (Elt Ideal) sh.view.ty) (Xl : BufTy.Contents (Elt Ideal) sl.view.ty)
    (k : Fin k1_t1_loop.trips) (g : Fin 8) (b : Fin 2) (x : (blk_down q sh sl Xq Xh Xl k g b).1.shape.Idx) :
    (blk_down q sh sl Xq Xh Xl k g b).2 x
      = wG (NG := 288) rfl rfl (q.view.read (Elt Ideal) Xq) (sh.view.read (Elt Ideal) Xh) (sl.view.read (Elt Ideal) Xl)
          ((blk_down q sh sl Xq Xh Xl k g b).1.emb x 0) ((blk_down q sh sl Xq Xh Xl k g b).1.emb x 1) :=
  rows_wG (NG := 288) rfl rfl _ _ _ k.val g b (k1_off1_eq k) (k1_off1_inb k) (k1_off2_eq k g) (k1_off2_inb k g) (k1_off3_eq k g b)
    (k1_off3_inb k g b) x

end Cert.Proof

end
-- ==== Proof.Tiles.lean ====
/- The weight tiles the kernel's loops leave in their buffers. -/
module

public import proofs.«01_k».proof.Proof.Weights
public import proofs.«01_k».proof.Proof.Gen.KernelIdeal.Loops
public import Idealize.ShloMosaic.Lib.Ring
public import Idealize.ShloMosaic.Lib.Tactic

@[expose] public section

set_option maxRecDepth 100000

noncomputable section

namespace Cert.Proof

open Cert.KernelIdeal Cert.KernelIdeal.Gen
open Idealize.ShloMosaic Idealize.ShloMosaic.TcCoe

/-- Everything the gate loop has stored before trip `n` is a part of the weight tile. -/
theorem pb_gate_wG (𝒱 : Variants) (c : Dev nD) (bd : Option 𝒱.V) (i : grid0.Coords) (arg1 : Memref sig .tc .vmem S256x4608 .bf16) (harg1 : arg1.IsWhole) (arg2 : Memref sig .tc .vmem S256x2304 .i8) (harg2 : arg2.IsWhole) (arg3 : Memref sig .tc .vmem S144x256 .f32) (harg3 : arg3.IsWhole) (arg4 : Memref sig .tc .vmem S256x2304 .i8) (harg4 : arg4.IsWhole) (arg5 : Memref sig .tc .vmem S144x256 .f32) (harg5 : arg5.IsWhole) (arg6 : Memref sig .tc .vmem S256x256 .bf16) (harg6 : arg6.IsWhole) (arg7 : Memref sig .tc .vmem S144x2x256 .bf16) (harg7 : arg7.IsWhole) (arg8 : Memref sig .tc .vmem S144x2x256 .bf16) (harg8 : arg8.IsWhole) (arg9 : Memref sig .tc .vmem S4608x256 .bf16) (harg9 : arg9.IsWhole) (arg10 : Memref sig .tc .vmem S4608x256 .bf16) (harg10 : arg10.IsWhole) (X_arg2 : BufTy.Contents (Elt Ideal) arg2.view.ty) (X_arg7 : BufTy.Contents (Elt Ideal) arg7.view.ty) (X_arg8 : BufTy.Contents (Elt Ideal) arg8.view.ty) : ∀ n : ℕ, n ≤ k0_t1_loop.trips →
    ∀ p ∈ pb_k0_t1 (F := Ideal) 𝒱 c bd i arg1 harg1 arg2 harg2 arg3 harg3 arg4 harg4 arg5 harg5 arg6 harg6 arg7 harg7 arg8 harg8 arg9 harg9 arg10 harg10 X_arg2 X_arg7 X_arg8 n, ∀ x, p.2 x = wG (NG := 144) rfl rfl (arg2.view.read (Elt Ideal) X_arg2) (arg7.view.read (Elt Ideal) X_arg7) (arg8.view.read (Elt Ideal) X_arg8) (p.1.emb x 0) (p.1.emb x 1)
  | 0, _ => fun p hp => absurd hp List.not_mem_nil
  | n + 1, h => fun p hp => by
    have e := pb_k0_t1_succ (F := Ideal) 𝒱 c bd i arg1 harg1 arg2 harg2 arg3 harg3 arg4 harg4 arg5 harg5 arg6 harg6 arg7 harg7 arg8 harg8 arg9 harg9 arg10 harg10 X_arg2 X_arg7 X_arg8 ⟨n, h⟩
    rw [show n + 1 = (⟨n, h⟩ : Fin k0_t1_loop.trips).val + 1 from rfl, e, tripL_gate] at hp
    rcases List.mem_append.mp hp with hp | hp
    · exact forall_blocks (fun g b => blk_gate arg2 arg7 arg8 X_arg2 X_arg7 X_arg8 ⟨n, h⟩ g b)
        (fun p => ∀ x, p.2 x = wG (NG := 144) rfl rfl (arg2.view.read (Elt Ideal) X_arg2) (arg7.view.read (Elt Ideal) X_arg7) (arg8.view.read (Elt Ideal) X_arg8) (p.1.emb x 0) (p.1.emb x 1))
        (fun g b x => blk_gate_wG arg2 arg7 arg8 X_arg2 X_arg7 X_arg8 ⟨n, h⟩ g b x) p hp
    · exact pb_gate_wG 𝒱 c bd i arg1 harg1 arg2 harg2 arg3 harg3 arg4 harg4 arg5 harg5 arg6 harg6 arg7 harg7 arg8 harg8 arg9 harg9 arg10 harg10 X_arg2 X_arg7 X_arg8 n (Nat.le_of_succ_le h) p hp

/-- What is read from the gate weights' buffer after the loop is the weight tile. -/
theorem read_gate (𝒱 : Variants) (c : Dev nD) (bd : Option 𝒱.V) (i : grid0.Coords) (arg1 : Memref sig .tc .vmem S256x4608 .bf16) (harg1 : arg1.IsWhole) (arg2 : Memref sig .tc .vmem S256x2304 .i8) (harg2 : arg2.IsWhole) (arg3 : Memref sig .tc .vmem S144x256 .f32) (harg3 : arg3.IsWhole) (arg4 : Memref sig .tc .vmem S256x2304 .i8) (harg4 : arg4.IsWhole) (arg5 : Memref sig .tc .vmem S144x256 .f32) (harg5 : arg5.IsWhole) (arg6 : Memref sig .tc .vmem S256x256 .bf16) (harg6 : arg6.IsWhole) (arg7 : Memref sig .tc .vmem S144x2x256 .bf16) (harg7 : arg7.IsWhole) (arg8 : Memref sig .tc .vmem S144x2x256 .bf16) (harg8 : arg8.IsWhole) (arg9 : Memref sig .tc .vmem S4608x256 .bf16) (harg9 : arg9.IsWhole) (arg10 : Memref sig .tc .vmem S4608x256 .bf16) (harg10 : arg10.IsWhole) (X_arg2 : BufTy.Contents (Elt Ideal) arg2.view.ty) (X_arg7 : BufTy.Contents (Elt Ideal) arg7.view.ty) (X_arg8 : BufTy.Contents (Elt Ideal) arg8.view.ty) (hB : ∀ a, (![0, 0] : Fin 2 → ℕ) a + S4608x256.size a ≤ S4608x256.size a) :
    arg9.view.readCov (pb_k0_t1 (F := Ideal) 𝒱 c bd i arg1 harg1 arg2 harg2 arg3 harg3 arg4 harg4 arg5 harg5 arg6 harg6 arg7 harg7 arg8 harg8 arg9 harg9 arg10 harg10 X_arg2 X_arg7 X_arg8 (Scf.trips k0_t1_loop.lb k0_t1_loop.ub k0_t1_loop.st)) (Rect.unit ![0, 0] S4608x256.size hB).toLoadRect
      = fun y => wG (NG := 144) rfl rfl (arg2.view.read (Elt Ideal) X_arg2) (arg7.view.read (Elt Ideal) X_arg7) (arg8.view.read (Elt Ideal) X_arg8) (y 0) (y 1) := by
  funext y
  have e : (Rect.unit (s := S4608x256) ![0, 0] S4608x256.size hB).emb y = y := Rect.emb_eq_of_coords _ _ _ (fun a => match a with
    | ⟨0, _⟩ => by show (y 0).val = 0 + 1 * (y 0).val; omega
    | ⟨1, _⟩ => by show (y 1).val = 0 + 1 * (y 1).val; omega)
  have h := View.read_writes_apply_of_pieces (Val := Elt Ideal) arg9.view arg9.view.junk (fun z : S4608x256.Idx => wG (NG := 144) rfl rfl (arg2.view.read (Elt Ideal) X_arg2) (arg7.view.read (Elt Ideal) X_arg7) (arg8.view.read (Elt Ideal) X_arg8) (z 0) (z 1))
    (pb_k0_t1 (F := Ideal) 𝒱 c bd i arg1 harg1 arg2 harg2 arg3 harg3 arg4 harg4 arg5 harg5 arg6 harg6 arg7 harg7 arg8 harg8 arg9 harg9 arg10 harg10 X_arg2 X_arg7 X_arg8 (Scf.trips k0_t1_loop.lb k0_t1_loop.ub k0_t1_loop.st)) (pb_gate_wG 𝒱 c bd i arg1 harg1 arg2 harg2 arg3 harg3 arg4 harg4 arg5 harg5 arg6 harg6 arg7 harg7 arg8 harg8 arg9 harg9 arg10 harg10 X_arg2 X_arg7 X_arg8 _ (le_of_eq rfl)) y
    (View.cover_of_tiledL (s := S4608x256) _ S16x256.size (by sl_kernel_rfl) y)
  show arg9.view.read (Elt Ideal) (arg9.view.writes (Elt Ideal) arg9.view.junk (pb_k0_t1 (F := Ideal) 𝒱 c bd i arg1 harg1 arg2 harg2 arg3 harg3 arg4 harg4 arg5 harg5 arg6 harg6 arg7 harg7 arg8 harg8 arg9 harg9 arg10 harg10 X_arg2 X_arg7 X_arg8 (Scf.trips k0_t1_loop.lb k0_t1_loop.ub k0_t1_loop.st)))
    ((Rect.unit (s := S4608x256) ![0, 0] S4608x256.size hB).emb y) = _
  rw [e]
  exact h

/-- Everything the up loop has stored before trip `n` is a part of the weight tile. -/
theorem pb_up_wG (𝒱 : Variants) (c : Dev nD) (bd : Option 𝒱.V) (i : grid0.Coords) (arg1 : Memref sig .tc .vmem S256x4608 .bf16) (harg1 : arg1.IsWhole) (arg2 : Memref sig .tc .vmem S256x2304 .i8) (harg2 : arg2.IsWhole) (arg3 : Memref sig .tc .vmem S144x256 .f32) (harg3 : arg3.IsWhole) (arg4 : Memref sig .tc .vmem S256x2304 .i8) (harg4 : arg4.IsWhole) (arg5 : Memref sig .tc .vmem S144x256 .f32) (harg5 : arg5.IsWhole) (arg6 : Memref sig .tc .vmem S256x256 .bf16) (harg6 : arg6.IsWhole) (arg7 : Memref sig .tc .vmem S144x2x256 .bf16) (harg7 : arg7.IsWhole) (arg8 : Memref sig .tc .vmem S144x2x256 .bf16) (harg8 : arg8.IsWhole) (arg9 : Memref sig .tc .vmem S4608x256 .bf16) (harg9 : arg9.IsWhole) (arg10 : Memref sig .tc .vmem S4608x256 .bf16) (harg10 : arg10.IsWhole) (v23 : FVec Ideal S144x256 .f32) (v25 : FVec Ideal S144x256 .f32) (cst_12 : Ideal .f32) (X_arg4 : BufTy.Contents (Elt Ideal) arg4.view.ty) (X_arg7 : BufTy.Contents (Elt Ideal) arg7.view.ty) (X_arg8 : BufTy.Contents (Elt Ideal) arg8.view.ty) : ∀ n : ℕ, n ≤ k0_t2_loop.trips →
    ∀ p ∈ pb_k0_t2 (F := Ideal) 𝒱 c bd i arg1 harg1 arg2 harg2 arg3 harg3 arg4 harg4 arg5 harg5 arg6 harg6 arg7 harg7 arg8 harg8 arg9 harg9 arg10 harg10 v23 v25 cst_12 X_arg4 X_arg7 X_arg8 n, ∀ x, p.2 x = wG (NG := 144) rfl rfl (arg4.view.read (Elt Ideal) X_arg4) (arg7.view.read (Elt Ideal) X_arg7) (arg8.view.read (Elt Ideal) X_arg8) (p.1.emb x 0) (p.1.emb x 1)
  | 0, _ => fun p hp => absurd hp List.not_mem_nil
  | n + 1, h => fun p hp => by
    have e := pb_k0_t2_succ (F := Ideal) 𝒱 c bd i arg1 harg1 arg2 harg2 arg3 harg3 arg4 harg4 arg5 harg5 arg6 harg6 arg7 harg7 arg8 harg8 arg9 harg9 arg10 harg10 v23 v25 cst_12 X_arg4 X_arg7 X_arg8 ⟨n, h⟩
    rw [show n + 1 = (⟨n, h⟩ : Fin k0_t2_loop.trips).val + 1 from rfl, e, tripL_up] at hp
    rcases List.mem_append.mp hp with hp | hp
    · exact forall_blocks (fun g b => blk_up arg4 arg7 arg8 X_arg4 X_arg7 X_arg8 ⟨n, h⟩ g b)
        (fun p => ∀ x, p.2 x = wG (NG := 144) rfl rfl (arg4.view.read (Elt Ideal) X_arg4) (arg7.view.read (Elt Ideal) X_arg7) (arg8.view.read (Elt Ideal) X_arg8) (p.1.emb x 0) (p.1.emb x 1))
        (fun g b x => blk_up_wG arg4 arg7 arg8 X_arg4 X_arg7 X_arg8 ⟨n, h⟩ g b x) p hp
    · exact pb_up_wG 𝒱 c bd i arg1 harg1 arg2 harg2 arg3 harg3 arg4 harg4 arg5 harg5 arg6 harg6 arg7 harg7 arg8 harg8 arg9 harg9 arg10 harg10 v23 v25 cst_12 X_arg4 X_arg7 X_arg8 n (Nat.le_of_succ_le h) p hp

/-- What is read from the up weights' buffer after the loop is the weight tile. -/
theorem read_up (𝒱 : Variants) (c : Dev nD) (bd : Option 𝒱.V) (i : grid0.Coords) (arg1 : Memref sig .tc .vmem S256x4608 .bf16) (harg1 : arg1.IsWhole) (arg2 : Memref sig .tc .vmem S256x2304 .i8) (harg2 : arg2.IsWhole) (arg3 : Memref sig .tc .vmem S144x256 .f32) (harg3 : arg3.IsWhole) (arg4 : Memref sig .tc .vmem S256x2304 .i8) (harg4 : arg4.IsWhole) (arg5 : Memref sig .tc .vmem S144x256 .f32) (harg5 : arg5.IsWhole) (arg6 : Memref sig .tc .vmem S256x256 .bf16) (harg6 : arg6.IsWhole) (arg7 : Memref sig .tc .vmem S144x2x256 .bf16) (harg7 : arg7.IsWhole) (arg8 : Memref sig .tc .vmem S144x2x256 .bf16) (harg8 : arg8.IsWhole) (arg9 : Memref sig .tc .vmem S4608x256 .bf16) (harg9 : arg9.IsWhole) (arg10 : Memref sig .tc .vmem S4608x256 .bf16) (harg10 : arg10.IsWhole) (v23 : FVec Ideal S144x256 .f32) (v25 : FVec Ideal S144x256 .f32) (cst_12 : Ideal .f32) (X_arg4 : BufTy.Contents (Elt Ideal) arg4.view.ty) (X_arg7 : BufTy.Contents (Elt Ideal) arg7.view.ty) (X_arg8 : BufTy.Contents (Elt Ideal) arg8.view.ty) (hB : ∀ a, (![0, 0] : Fin 2 → ℕ) a + S4608x256.size a ≤ S4608x256.size a) :
    arg10.view.readCov (pb_k0_t2 (F := Ideal) 𝒱 c bd i arg1 harg1 arg2 harg2 arg3 harg3 arg4 harg4 arg5 harg5 arg6 harg6 arg7 harg7 arg8 harg8 arg9 harg9 arg10 harg10 v23 v25 cst_12 X_arg4 X_arg7 X_arg8 (Scf.trips k0_t2_loop.lb k0_t2_loop.ub k0_t2_loop.st)) (Rect.unit ![0, 0] S4608x256.size hB).toLoadRect
      = fun y => wG (NG := 144) rfl rfl (arg4.view.read (Elt Ideal) X_arg4) (arg7.view.read (Elt Ideal) X_arg7) (arg8.view.read (Elt Ideal) X_arg8) (y 0) (y 1) := by
  funext y
  have e : (Rect.unit (s := S4608x256) ![0, 0] S4608x256.size hB).emb y = y := Rect.emb_eq_of_coords _ _ _ (fun a => match a with
    | ⟨0, _⟩ => by show (y 0).val = 0 + 1 * (y 0).val; omega
    | ⟨1, _⟩ => by show (y 1).val = 0 + 1 * (y 1).val; omega)
  have h := View.read_writes_apply_of_pieces (Val := Elt Ideal) arg10.view arg10.view.junk (fun z : S4608x256.Idx => wG (NG := 144) rfl rfl (arg4.view.read (Elt Ideal) X_arg4) (arg7.view.read (Elt Ideal) X_arg7) (arg8.view.read (Elt Ideal) X_arg8) (z 0) (z 1))
    (pb_k0_t2 (F := Ideal) 𝒱 c bd i arg1 harg1 arg2 harg2 arg3 harg3 arg4 harg4 arg5 harg5 arg6 harg6 arg7 harg7 arg8 harg8 arg9 harg9 arg10 harg10 v23 v25 cst_12 X_arg4 X_arg7 X_arg8 (Scf.trips k0_t2_loop.lb k0_t2_loop.ub k0_t2_loop.st)) (pb_up_wG 𝒱 c bd i arg1 harg1 arg2 harg2 arg3 harg3 arg4 harg4 arg5 harg5 arg6 harg6 arg7 harg7 arg8 harg8 arg9 harg9 arg10 harg10 v23 v25 cst_12 X_arg4 X_arg7 X_arg8 _ (le_of_eq rfl)) y
    (View.cover_of_tiledL (s := S4608x256) _ S16x256.size (by sl_kernel_rfl) y)
  show arg10.view.read (Elt Ideal) (arg10.view.writes (Elt Ideal) arg10.view.junk (pb_k0_t2 (F := Ideal) 𝒱 c bd i arg1 harg1 arg2 harg2 arg3 harg3 arg4 harg4 arg5 harg5 arg6 harg6 arg7 harg7 arg8 harg8 arg9 harg9 arg10 harg10 v23 v25 cst_12 X_arg4 X_arg7 X_arg8 (Scf.trips k0_t2_loop.lb k0_t2_loop.ub k0_t2_loop.st)))
    ((Rect.unit (s := S4608x256) ![0, 0] S4608x256.size hB).emb y) = _
  rw [e]
  exact h

/-- Everything the down loop has stored before trip `n` is a part of the weight tile. -/
theorem pb_down_wG (𝒱 : Variants) (c : Dev nD) (bd : Option 𝒱.V) (i : grid1.Coords) (arg1 : Memref sig .tc .vmem S256x9216 .bf16) (harg1 : arg1.IsWhole) (arg2 : Memref sig .tc .vmem S256x4608 .i8) (harg2 : arg2.IsWhole) (arg3 : Memref sig .tc .vmem S288x256 .f32) (harg3 : arg3.IsWhole) (arg4 : Memref sig .tc .vmem S256x256 .bf16) (harg4 : arg4.IsWhole) (arg5 : Memref sig .tc .vmem S288x2x256 .bf16) (harg5 : arg5.IsWhole) (arg6 : Memref sig .tc .vmem S288x2x256 .bf16) (harg6 : arg6.IsWhole) (arg7 : Memref sig .tc .vmem S9216x256 .bf16) (harg7 : arg7.IsWhole) (X_arg2 : BufTy.Contents (Elt Ideal) arg2.view.ty) (X_arg5 : BufTy.Contents (Elt Ideal) arg5.view.ty) (X_arg6 : BufTy.Contents (Elt Ideal) arg6.view.ty) : ∀ n : ℕ, n ≤ k1_t1_loop.trips →
    ∀ p ∈ pb_k1_t1 (F := Ideal) 𝒱 c bd i arg1 harg1 arg2 harg2 arg3 harg3 arg4 harg4 arg5 harg5 arg6 harg6 arg7 harg7 X_arg2 X_arg5 X_arg6 n, ∀ x, p.2 x = wG (NG := 288) rfl rfl (arg2.view.read (Elt Ideal) X_arg2) (arg5.view.read (Elt Ideal) X_arg5) (arg6.view.read (Elt Ideal) X_arg6) (p.1.emb x 0) (p.1.emb x 1)
  | 0, _ => fun p hp => absurd hp List.not_mem_nil
  | n + 1, h => fun p hp => by
    have e := pb_k1_t1_succ (F := Ideal) 𝒱 c bd i arg1 harg1 arg2 harg2 arg3 harg3 arg4 harg4 arg5 harg5 arg6 harg6 arg7 harg7 X_arg2 X_arg5 X_arg6 ⟨n, h⟩
    rw [show n + 1 = (⟨n, h⟩ : Fin k1_t1_loop.trips).val + 1 from rfl, e, tripL_down] at hp
    rcases List.mem_append.mp hp with hp | hp
    · exact forall_blocks (fun g b => blk_down arg2 arg5 arg6 X_arg2 X_arg5 X_arg6 ⟨n, h⟩ g b)
        (fun p => ∀ x, p.2 x = wG (NG := 288) rfl rfl (arg2.view.read (Elt Ideal) X_arg2) (arg5.view.read (Elt Ideal) X_arg5) (arg6.view.read (Elt Ideal) X_arg6) (p.1.emb x 0) (p.1.emb x 1))
        (fun g b x => blk_down_wG arg2 arg5 arg6 X_arg2 X_arg5 X_arg6 ⟨n, h⟩ g b x) p hp
    · exact pb_down_wG 𝒱 c bd i arg1 harg1 arg2 harg2 arg3 harg3 arg4 harg4 arg5 harg5 arg6 harg6 arg7 harg7 X_arg2 X_arg5 X_arg6 n (Nat.le_of_succ_le h) p hp

/-- What is read from the down weights' buffer after the loop is the weight tile. -/
theorem read_down (𝒱 : Variants) (c : Dev nD) (bd : Option 𝒱.V) (i : grid1.Coords) (arg1 : Memref sig .tc .vmem S256x9216 .bf16) (harg1 : arg1.IsWhole) (arg2 : Memref sig .tc .vmem S256x4608 .i8) (harg2 : arg2.IsWhole) (arg3 : Memref sig .tc .vmem S288x256 .f32) (harg3 : arg3.IsWhole) (arg4 : Memref sig .tc .vmem S256x256 .bf16) (harg4 : arg4.IsWhole) (arg5 : Memref sig .tc .vmem S288x2x256 .bf16) (harg5 : arg5.IsWhole) (arg6 : Memref sig .tc .vmem S288x2x256 .bf16) (harg6 : arg6.IsWhole) (arg7 : Memref sig .tc .vmem S9216x256 .bf16) (harg7 : arg7.IsWhole) (X_arg2 : BufTy.Contents (Elt Ideal) arg2.view.ty) (X_arg5 : BufTy.Contents (Elt Ideal) arg5.view.ty) (X_arg6 : BufTy.Contents (Elt Ideal) arg6.view.ty) (hB : ∀ a, (![0, 0] : Fin 2 → ℕ) a + S9216x256.size a ≤ S9216x256.size a) :
    arg7.view.readCov (pb_k1_t1 (F := Ideal) 𝒱 c bd i arg1 harg1 arg2 harg2 arg3 harg3 arg4 harg4 arg5 harg5 arg6 harg6 arg7 harg7 X_arg2 X_arg5 X_arg6 (Scf.trips k1_t1_loop.lb k1_t1_loop.ub k1_t1_loop.st)) (Rect.unit ![0, 0] S9216x256.size hB).toLoadRect
      = fun y => wG (NG := 288) rfl rfl (arg2.view.read (Elt Ideal) X_arg2) (arg5.view.read (Elt Ideal) X_arg5) (arg6.view.read (Elt Ideal) X_arg6) (y 0) (y 1) := by
  funext y
  have e : (Rect.unit (s := S9216x256) ![0, 0] S9216x256.size hB).emb y = y := Rect.emb_eq_of_coords _ _ _ (fun a => match a with
    | ⟨0, _⟩ => by show (y 0).val = 0 + 1 * (y 0).val; omega
    | ⟨1, _⟩ => by show (y 1).val = 0 + 1 * (y 1).val; omega)
  have h := View.read_writes_apply_of_pieces (Val := Elt Ideal) arg7.view arg7.view.junk (fun z : S9216x256.Idx => wG (NG := 288) rfl rfl (arg2.view.read (Elt Ideal) X_arg2) (arg5.view.read (Elt Ideal) X_arg5) (arg6.view.read (Elt Ideal) X_arg6) (z 0) (z 1))
    (pb_k1_t1 (F := Ideal) 𝒱 c bd i arg1 harg1 arg2 harg2 arg3 harg3 arg4 harg4 arg5 harg5 arg6 harg6 arg7 harg7 X_arg2 X_arg5 X_arg6 (Scf.trips k1_t1_loop.lb k1_t1_loop.ub k1_t1_loop.st)) (pb_down_wG 𝒱 c bd i arg1 harg1 arg2 harg2 arg3 harg3 arg4 harg4 arg5 harg5 arg6 harg6 arg7 harg7 X_arg2 X_arg5 X_arg6 _ (le_of_eq rfl)) y
    (View.cover_of_tiledL (s := S9216x256) _ S16x256.size (by sl_kernel_rfl) y)
  show arg7.view.read (Elt Ideal) (arg7.view.writes (Elt Ideal) arg7.view.junk (pb_k1_t1 (F := Ideal) 𝒱 c bd i arg1 harg1 arg2 harg2 arg3 harg3 arg4 harg4 arg5 harg5 arg6 harg6 arg7 harg7 X_arg2 X_arg5 X_arg6 (Scf.trips k1_t1_loop.lb k1_t1_loop.ub k1_t1_loop.st)))
    ((Rect.unit (s := S9216x256) ![0, 0] S9216x256.size hB).emb y) = _
  rw [e]
  exact h

end Cert.Proof

end
-- ==== Proof.Scales.lean ====
/- The scales the kernel stores in two parts, and what a weight of the two parts is. -/
module

public import proofs.«01_k».proof.Proof.Weights
public import Idealize.ShloMosaic.Lib.IdealHost

@[expose] public section

noncomputable section

namespace Cert.Proof

open Cert.KernelIdeal Cert.KernelIdeal.Gen
open Idealize.ShloMosaic Idealize.ShloMosaic.TcCoe

/-- A scale over sixteen. -/
def sc16 (s : EReal) : EReal := s * Ideal.ofBits .f32 0x3D800000#32

/-- The high part of a scale over sixteen. -/
def hiP (s : EReal) : EReal :=
  sc16 s * Ideal.ofBits .f32 0x3F800800#32 * Ideal.ofBits .f32 0x49000010#32
    - (sc16 s * Ideal.ofBits .f32 0x3F800800#32 * Ideal.ofBits .f32 0x49000010#32 - sc16 s * Ideal.ofBits .f32 0x3F800800#32)

/-- Its low part: what the high part leaves. -/
def loP (s : EReal) : EReal := sc16 s - hiP s

/-- The gate's high parts, in both halves of a word. -/
theorem pay85_apply (v : Vec Ideal S144x256 .f32) (g : Fin 144) (p : Fin 2) (l : Fin 256) :
    k0_pay85 v (ValueIdx.ix3 g p l) = hiP (v (ValueIdx.ix2 g l)) := by
  rw [← ix2_eq_valueIdx, ← ix3_eq_valueIdx]
  pointwise [k0_pay85, k0_pay84, k0_pay83]
  exact ite_self _

/-- The gate's low parts. -/
theorem pay86_apply (v : Vec Ideal S144x256 .f32) (g : Fin 144) (p : Fin 2) (l : Fin 256) :
    k0_pay86 v (ValueIdx.ix3 g p l) = loP (v (ValueIdx.ix2 g l)) := by
  rw [← ix2_eq_valueIdx, ← ix3_eq_valueIdx]
  pointwise [k0_pay86, k0_pay84, k0_pay83]
  exact ite_self _

/-- The up projection's high parts. -/
theorem pay91_apply (v : Vec Ideal S144x256 .f32) (g : Fin 144) (p : Fin 2) (l : Fin 256) :
    k0_pay91 (k0_pay89 v) (FloatOps.ofBits .f32 1224736784#32) (ValueIdx.ix3 g p l) = hiP (v (ValueIdx.ix2 g l)) :=
  pay85_apply v g p l

/-- The up projection's low parts. -/
theorem pay92_apply (v : Vec Ideal S144x256 .f32) (g : Fin 144) (p : Fin 2) (l : Fin 256) :
    k0_pay92 (k0_pay88 v) (k0_pay89 v) (FloatOps.ofBits .f32 1224736784#32) (ValueIdx.ix3 g p l)
      = loP (v (ValueIdx.ix2 g l)) :=
  pay86_apply v g p l

/-- The down projection's high parts. -/
theorem k1_pay44_apply (v : Vec Ideal S288x256 .f32) (g : Fin 288) (p : Fin 2) (l : Fin 256) :
    k1_pay44 v (ValueIdx.ix3 g p l) = hiP (v (ValueIdx.ix2 g l)) := by
  rw [← ix2_eq_valueIdx, ← ix3_eq_valueIdx]
  pointwise [k1_pay44, k1_pay43, k1_pay42]
  exact ite_self _

/-- The down projection's low parts. -/
theorem k1_pay45_apply (v : Vec Ideal S288x256 .f32) (g : Fin 288) (p : Fin 2) (l : Fin 256) :
    k1_pay45 v (ValueIdx.ix3 g p l) = loP (v (ValueIdx.ix2 g l)) := by
  rw [← ix2_eq_valueIdx, ← ix3_eq_valueIdx]
  pointwise [k1_pay45, k1_pay43, k1_pay42]
  exact ite_self _

/-- The constant 1/16. -/
theorem ofBits_sixteenth : Ideal.ofBits .f32 0x3D800000#32 = ((1 / 16 : ℝ) : EReal) := by
  simp [Ideal.ofBits, Ideal.ieee, -EReal.coe_mul]; norm_num

/-- The constant 1 + 1/4096. -/
theorem ofBits_near_one : Ideal.ofBits .f32 0x3F800800#32 = ((4097 / 4096 : ℝ) : EReal) := by
  simp [Ideal.ofBits, Ideal.ieee, -EReal.coe_mul]; norm_num

/-- The constant 2^19 + 1. -/
theorem ofBits_split : Ideal.ofBits .f32 0x49000010#32 = ((524289 : ℝ) : EReal) := by
  simp [Ideal.ofBits, Ideal.ieee, -EReal.coe_mul]; norm_num

/-- A weight: the nibble less eight, times its scale. -/
def wk (b : BitVec 8) (h : ℕ) (s : EReal) : EReal := (((nib b h : ℝ) - 8 : ℝ) : EReal) * s

/-- The code times the two parts of a finite scale over sixteen is the weight. -/
theorem parts (b : BitVec 8) (h : ℕ) (s : ℝ) :
    code16 b h * hiP (s : EReal) + code16 b h * loP (s : EReal) = wk b h (s : EReal) := by
  unfold code16 loP hiP sc16 wk
  rw [ofBits_sixteenth, ofBits_near_one, ofBits_split]
  simp only [← EReal.coe_mul, ← EReal.coe_sub, ← EReal.coe_add]
  congr 1
  push_cast
  ring

/-- The weight tile, where the two parts are a finite scale's: the weights. -/
theorem wG_eq {NQ NG NW : ℕ} (hQ : NQ = 16 * NG) (hW : NW = 32 * NG) (qf : (⟨2, ![256, NQ]⟩ : Shape).Idx → BitVec 8)
    (hf lf : (⟨3, ![NG, 2, 256]⟩ : Shape).Idx → EReal) (s : (⟨2, ![NG, 256]⟩ : Shape).Idx → EReal)
    (hh : ∀ g p l, hf (ValueIdx.ix3 g p l) = hiP (s (ValueIdx.ix2 g l)))
    (hl : ∀ g p l, lf (ValueIdx.ix3 g p l) = loP (s (ValueIdx.ix2 g l)))
    (hs : ∀ y, ∃ r : ℝ, s y = (r : EReal)) (r : Fin NW) (l : Fin 256) :
    wG hQ hW qf hf lf r l
      = wk (qf (ValueIdx.ix2 l (⟨r.val / 32 * 16 + r.val % 16, by omega⟩ : Fin NQ))) (r.val % 32 / 16)
          (s (ValueIdx.ix2 (⟨r.val / 32, by omega⟩ : Fin NG) l)) := by
  unfold wG
  rw [hh, hl]
  obtain ⟨x, hx⟩ := hs (ValueIdx.ix2 (⟨r.val / 32, by omega⟩ : Fin NG) l)
  rw [hx]
  exact parts _ _ x

end Cert.Proof

end
-- ==== Proof.Points.lean ====
/- What a grid point of each kernel leaves in its output block, in terms of the blocks it reads. -/
module

public import proofs.«01_k».proof.Proof.Tiles
public import proofs.«01_k».proof.Proof.Scales
public import proofs.«01_k».proof.Proof.Gen.KernelIdeal.Frame
public import Idealize.ShloMosaic.Lib.VecWindow

@[expose] public section

set_option maxRecDepth 100000

noncomputable section

namespace Cert.Proof

open Cert.KernelIdeal Cert.KernelIdeal.Gen
open Idealize.ShloMosaic Idealize.ShloMosaic.TcCoe

/-- A whole memref held at contents that read `X`, loaded whole, reads `X`. -/
theorem readAt_all {sp : Space} {s : Shape} {e : EltTy} {m : Memref sig .tc sp s e} (h : m.IsWhole) (X : s.Idx → Elt Ideal e)
    {off : Fin s.rank → ℕ} (inb : ∀ a, off a + s.size a ≤ s.size a) :
    m.view.readAt (Elt Ideal) (Rect.unit off s.size inb).toLoadRect (h.unread X) = X := by
  rw [View.readAt_full, h.read_unread]

/-- Two column tiles into the gated product: the first sum, times its logistic, times the second. -/
def glu (a b : EReal) : EReal := a * Ideal.logistic a * b

/-- The gated product's payload at an element. -/
theorem pay94_apply (x : Vec Ideal S256x4608 .bf16) (w u : Vec Ideal S4608x256 .bf16) (m l : Fin 256) :
    k0_pay94 x w x u (ValueIdx.ix2 m l)
      = glu (∑ k : Fin 4608, x (ValueIdx.ix2 m k) * w (ValueIdx.ix2 k l)) (∑ k : Fin 4608, x (ValueIdx.ix2 m k) * u (ValueIdx.ix2 k l)) := by
  simp only [← ix2_eq_valueIdx]
  pointwise [k0_pay94]
  rfl

/-- The down product's payload at an element. -/
theorem k1_pay47_apply (x : Vec Ideal S256x9216 .bf16) (w : Vec Ideal S9216x256 .bf16) (m l : Fin 256) :
    k1_pay47 x w (ValueIdx.ix2 m l) = ∑ k : Fin 9216, x (ValueIdx.ix2 m k) * w (ValueIdx.ix2 k l) := by
  simp only [← ix2_eq_valueIdx]
  pointwise [k1_pay47]

/-- The first kernel's output block. -/
theorem out0_eq (c : Dev nD) (i : grid0.Coords) (arg1 : Memref sig .tc .vmem S256x4608 .bf16) (harg1 : arg1.IsWhole) (arg2 : Memref sig .tc .vmem S256x2304 .i8) (harg2 : arg2.IsWhole) (arg3 : Memref sig .tc .vmem S144x256 .f32) (harg3 : arg3.IsWhole) (arg4 : Memref sig .tc .vmem S256x2304 .i8) (harg4 : arg4.IsWhole) (arg5 : Memref sig .tc .vmem S144x256 .f32) (harg5 : arg5.IsWhole) (arg6 : Memref sig .tc .vmem S256x256 .bf16) (harg6 : arg6.IsWhole) (arg7 : Memref sig .tc .vmem S144x2x256 .bf16) (harg7 : arg7.IsWhole) (arg8 : Memref sig .tc .vmem S144x2x256 .bf16) (harg8 : arg8.IsWhole) (arg9 : Memref sig .tc .vmem S4608x256 .bf16) (harg9 : arg9.IsWhole) (arg10 : Memref sig .tc .vmem S4608x256 .bf16) (harg10 : arg10.IsWhole)
    (x0 : Vec Ideal S256x4608 .bf16) (x1 : Vec Ideal S256x2304 .i8) (x2 : Vec Ideal S144x256 .f32) (x3 : Vec Ideal S256x2304 .i8) (x4 : Vec Ideal S144x256 .f32) :
    out0_A_5 (F := Ideal) c i arg1 harg1 arg2 harg2 arg3 harg3 arg4 harg4 arg5 harg5 arg6 harg6 arg7 harg7 arg8 harg8 arg9 harg9 arg10 harg10 x0 x1 x2 x3 x4
      = k0_pay94 x0 (fun y => wG (NG := 144) rfl rfl x1 (k0_pay85 x2) (k0_pay86 x2) (y 0) (y 1)) x0
          (fun y => wG (NG := 144) rfl rfl x3 (k0_pay91 (k0_pay89 x4) (FloatOps.ofBits .f32 1224736784#32))
            (k0_pay92 (k0_pay88 x4) (k0_pay89 x4) (FloatOps.ofBits .f32 1224736784#32)) (y 0) (y 1)) := by
  refine (View.read_writes_full VO0_5 _ _ _ []).trans ?_
  unfold kernelRun0_A.sl.r_2
  rw [read_gate, read_up]
  unfold kernelRun0_A.sl.HS0_1 kernelRun0_A.sl.HS1_1 kernelRun0_A.sl.r kernelRun0_A.sl.r_1 kernelRun0_A.sl.cst_12
  rw [readAt_all harg1 x0, readAt_all harg3 x2, readAt_all harg5 x4, View.read_writes_full arg7.view, View.read_writes_full arg8.view,
    View.read_writes_full arg7.view, View.read_writes_full arg8.view, harg2.read_unread, harg4.read_unread]
  rfl

/-- The second kernel's output block. -/
theorem out1_eq (c : Dev nD) (i : grid1.Coords) (arg1 : Memref sig .tc .vmem S256x9216 .bf16) (harg1 : arg1.IsWhole) (arg2 : Memref sig .tc .vmem S256x4608 .i8) (harg2 : arg2.IsWhole) (arg3 : Memref sig .tc .vmem S288x256 .f32) (harg3 : arg3.IsWhole) (arg4 : Memref sig .tc .vmem S256x256 .bf16) (harg4 : arg4.IsWhole) (arg5 : Memref sig .tc .vmem S288x2x256 .bf16) (harg5 : arg5.IsWhole) (arg6 : Memref sig .tc .vmem S288x2x256 .bf16) (harg6 : arg6.IsWhole) (arg7 : Memref sig .tc .vmem S9216x256 .bf16) (harg7 : arg7.IsWhole)
    (x0 : Vec Ideal S256x9216 .bf16) (x1 : Vec Ideal S256x4608 .i8) (x2 : Vec Ideal S288x256 .f32) :
    out1_A_3 (F := Ideal) c i arg1 harg1 arg2 harg2 arg3 harg3 arg4 harg4 arg5 harg5 arg6 harg6 arg7 harg7 x0 x1 x2
      = k1_pay47 x0 (fun y => wG (NG := 288) rfl rfl x1 (k1_pay44 x2) (k1_pay45 x2) (y 0) (y 1)) := by
  refine (View.read_writes_full VO1_3 _ _ _ []).trans ?_
  unfold kernelRun1_A.sl.r
  rw [read_down]
  unfold kernelRun1_A.sl.HS0_1 kernelRun1_A.sl.HS1_1
  rw [readAt_all harg1 x0, readAt_all harg3 x2, View.read_writes_full arg5.view, View.read_writes_full arg6.view, harg2.read_unread]
  rfl

/-- A column of weights times a row, over all groups: the byte and the nibble of each row of the tile, and its group's scale. -/
def dotW {NQ NG NW : ℕ} (hQ : NQ = 16 * NG) (hW : NW = 32 * NG) (x : Fin NW → EReal) (q : Fin NQ → BitVec 8) (s : Fin NG → EReal) : EReal :=
  ∑ k : Fin NW, x k * wk (q ⟨k.val / 32 * 16 + k.val % 16, by omega⟩) (k.val % 32 / 16) (s ⟨k.val / 32, by omega⟩)

/-- The first kernel's output block at an element, its scales finite. -/
theorem out0_apply (c : Dev nD) (i : grid0.Coords) (arg1 : Memref sig .tc .vmem S256x4608 .bf16) (harg1 : arg1.IsWhole) (arg2 : Memref sig .tc .vmem S256x2304 .i8) (harg2 : arg2.IsWhole) (arg3 : Memref sig .tc .vmem S144x256 .f32) (harg3 : arg3.IsWhole) (arg4 : Memref sig .tc .vmem S256x2304 .i8) (harg4 : arg4.IsWhole) (arg5 : Memref sig .tc .vmem S144x256 .f32) (harg5 : arg5.IsWhole) (arg6 : Memref sig .tc .vmem S256x256 .bf16) (harg6 : arg6.IsWhole) (arg7 : Memref sig .tc .vmem S144x2x256 .bf16) (harg7 : arg7.IsWhole) (arg8 : Memref sig .tc .vmem S144x2x256 .bf16) (harg8 : arg8.IsWhole) (arg9 : Memref sig .tc .vmem S4608x256 .bf16) (harg9 : arg9.IsWhole) (arg10 : Memref sig .tc .vmem S4608x256 .bf16) (harg10 : arg10.IsWhole)
    (x0 : Vec Ideal S256x4608 .bf16) (x1 : Vec Ideal S256x2304 .i8) (x2 : Vec Ideal S144x256 .f32) (x3 : Vec Ideal S256x2304 .i8) (x4 : Vec Ideal S144x256 .f32)
    (h2 : ∀ y, ∃ r : ℝ, x2 y = (r : EReal)) (h4 : ∀ y, ∃ r : ℝ, x4 y = (r : EReal)) (m l : Fin 256) :
    out0_A_5 (F := Ideal) c i arg1 harg1 arg2 harg2 arg3 harg3 arg4 harg4 arg5 harg5 arg6 harg6 arg7 harg7 arg8 harg8 arg9 harg9 arg10 harg10 x0 x1 x2 x3 x4 (ValueIdx.ix2 m l)
      = glu (dotW (NG := 144) rfl rfl (fun k => x0 (ValueIdx.ix2 m k)) (fun j => x1 (ValueIdx.ix2 l j)) (fun g => x2 (ValueIdx.ix2 g l)))
          (dotW (NG := 144) rfl rfl (fun k => x0 (ValueIdx.ix2 m k)) (fun j => x3 (ValueIdx.ix2 l j)) (fun g => x4 (ValueIdx.ix2 g l))) := by
  rw [out0_eq, pay94_apply]
  exact congrArg₂ glu
    (Finset.sum_congr rfl fun k _ => congrArg (x0 (ValueIdx.ix2 m k) * ·)
      (wG_eq (NG := 144) rfl rfl x1 (k0_pay85 x2) (k0_pay86 x2) x2 (pay85_apply x2) (pay86_apply x2) h2 k l))
    (Finset.sum_congr rfl fun k _ => congrArg (x0 (ValueIdx.ix2 m k) * ·)
      (wG_eq (NG := 144) rfl rfl x3 _ _ x4 (pay91_apply x4) (pay92_apply x4) h4 k l))

/-- The second kernel's output block at an element, its scales finite. -/
theorem out1_apply (c : Dev nD) (i : grid1.Coords) (arg1 : Memref sig .tc .vmem S256x9216 .bf16) (harg1 : arg1.IsWhole) (arg2 : Memref sig .tc .vmem S256x4608 .i8) (harg2 : arg2.IsWhole) (arg3 : Memref sig .tc .vmem S288x256 .f32) (harg3 : arg3.IsWhole) (arg4 : Memref sig .tc .vmem S256x256 .bf16) (harg4 : arg4.IsWhole) (arg5 : Memref sig .tc .vmem S288x2x256 .bf16) (harg5 : arg5.IsWhole) (arg6 : Memref sig .tc .vmem S288x2x256 .bf16) (harg6 : arg6.IsWhole) (arg7 : Memref sig .tc .vmem S9216x256 .bf16) (harg7 : arg7.IsWhole)
    (x0 : Vec Ideal S256x9216 .bf16) (x1 : Vec Ideal S256x4608 .i8) (x2 : Vec Ideal S288x256 .f32)
    (h2 : ∀ y, ∃ r : ℝ, x2 y = (r : EReal)) (m l : Fin 256) :
    out1_A_3 (F := Ideal) c i arg1 harg1 arg2 harg2 arg3 harg3 arg4 harg4 arg5 harg5 arg6 harg6 arg7 harg7 x0 x1 x2 (ValueIdx.ix2 m l)
      = dotW (NG := 288) rfl rfl (fun k => x0 (ValueIdx.ix2 m k)) (fun j => x1 (ValueIdx.ix2 l j)) (fun g => x2 (ValueIdx.ix2 g l)) := by
  rw [out1_eq, k1_pay47_apply]
  exact Finset.sum_congr rfl fun k _ => congrArg (x0 (ValueIdx.ix2 m k) * ·)
    (wG_eq (NG := 288) rfl rfl x1 (k1_pay44 x2) (k1_pay45 x2) x2 (k1_pay44_apply x2) (k1_pay45_apply x2) h2 k l)

end Cert.Proof

end
-- ==== Proof.Order.lean ====
module

public import proofs.«01_k».proof.Proof.Points

@[expose] public section

noncomputable section

namespace Cert.Proof

open Idealize.ShloMosaic

/-- The order in which the reference adds the terms: all low nibbles, group by group, then all high nibbles. -/
def place (NQ κ : ℕ) : ℕ := if κ < NQ then κ / 16 * 32 + κ % 16 else (κ - NQ) / 16 * 32 + 16 + (κ - NQ) % 16

/-- A low nibble's place. -/
theorem place_low {NQ κ : ℕ} (h : κ < NQ) : place NQ κ = κ / 16 * 32 + κ % 16 := if_pos h

/-- A high nibble's place. -/
theorem place_high {NQ κ : ℕ} (h : ¬κ < NQ) : place NQ κ = (κ - NQ) / 16 * 32 + 16 + (κ - NQ) % 16 := if_neg h

/-- Every place is a row. -/
theorem place_lt {NQ NG NW κ : ℕ} (hQ : NQ = 16 * NG) (hW : NW = 32 * NG) (hκ : κ < NW) : place NQ κ < NW := by
  by_cases h : κ < NQ
  · rw [place_low h]; omega
  · rw [place_high h]; omega

/-- Different terms have different places. -/
theorem place_inj {NQ NG a b : ℕ} (hQ : NQ = 16 * NG) (h : place NQ a = place NQ b) : a = b := by
  by_cases ha : a < NQ <;> by_cases hb : b < NQ
  · rw [place_low ha, place_low hb] at h; omega
  · rw [place_low ha, place_high hb] at h; omega
  · rw [place_high ha, place_low hb] at h; omega
  · rw [place_high ha, place_high hb] at h; omega

/-- The order as a map of the rows. -/
def perm {NQ NG NW : ℕ} (hQ : NQ = 16 * NG) (hW : NW = 32 * NG) (κ : Fin NW) : Fin NW := ⟨place NQ κ.val, place_lt hQ hW κ.isLt⟩

/-- That order visits every row once. -/
theorem perm_bijective {NQ NG NW : ℕ} (hQ : NQ = 16 * NG) (hW : NW = 32 * NG) : Function.Bijective (perm hQ hW) :=
  Finite.injective_iff_bijective.mp fun _ _ h => Fin.ext (place_inj hQ (congrArg Fin.val h))

/-- A sum in the reference's order is the sum in row order. -/
theorem sum_perm {NQ NG NW : ℕ} (hQ : NQ = 16 * NG) (hW : NW = 32 * NG) (x : Fin NW → EReal) (q : Fin NQ → BitVec 8) (s : Fin NG → EReal)
    (f : Fin NW → EReal)
    (hl : ∀ (κ : Fin NW) (h : κ.val < NQ), f κ = x ⟨κ.val / 16 * 32 + κ.val % 16, by omega⟩ * wk (q ⟨κ.val, h⟩) 0 (s ⟨κ.val / 16, by omega⟩))
    (hh : ∀ (κ : Fin NW) (h : ¬κ.val < NQ), f κ = x ⟨(κ.val - NQ) / 16 * 32 + 16 + (κ.val - NQ) % 16, by omega⟩
      * wk (q ⟨κ.val - NQ, by omega⟩) 1 (s ⟨(κ.val - NQ) / 16, by omega⟩)) :
    ∑ κ : Fin NW, f κ = dotW hQ hW x q s := by
  unfold dotW
  refine Fintype.sum_bijective (perm hQ hW) (perm_bijective hQ hW) _ _ fun κ => ?_
  have key : ∀ (r : Fin NW) (j : Fin NQ) (g : Fin NG) (b : ℕ), r.val / 32 * 16 + r.val % 16 = j.val → r.val / 32 = g.val → r.val % 32 / 16 = b →
      x r * wk (q j) b (s g) = x r * wk (q ⟨r.val / 32 * 16 + r.val % 16, by omega⟩) (r.val % 32 / 16) (s ⟨r.val / 32, by omega⟩) := by
    intro r j g b h1 h2 h3
    obtain ⟨j, hj⟩ := j
    obtain ⟨g, hg⟩ := g
    dsimp only at h1 h2
    subst h1 h2 h3
    rfl
  by_cases h : κ.val < NQ
  · rw [hl κ h, show perm hQ hW κ = ⟨κ.val / 16 * 32 + κ.val % 16, by omega⟩ from Fin.ext (place_low h)]
    exact key _ _ _ _ (by dsimp only; omega) (by dsimp only; omega) (by dsimp only; omega)
  · rw [hh κ h, show perm hQ hW κ = ⟨(κ.val - NQ) / 16 * 32 + 16 + (κ.val - NQ) % 16, by omega⟩ from Fin.ext (place_high h)]
    exact key _ _ _ _ (by dsimp only; omega) (by dsimp only; omega) (by dsimp only; omega)

end Cert.Proof

end
-- ==== Proof.Arrays.lean ====
/- The arrays the two kernels leave, from the arrays they find. -/
module

public import proofs.«01_k».proof.Proof.Points
public import Idealize.ShloMosaic.Lib.Pipeline.ValueKit.Geometry

@[expose] public section

set_option maxRecDepth 100000

noncomputable section

namespace Cert.Proof

open Cert.KernelIdeal Cert.KernelIdeal.Gen
open Idealize.ShloMosaic Idealize.ShloMosaic.TcCoe Idealize.ShloMosaic.Pipeline Idealize.ShloMosaic.ValueKit

/-- The block of the input at each point of the first kernel's grid. -/
theorem ix0_0 : ∀ t : Fin cfg0.N, win0_0.index t 0 = 0 ∧ win0_0.index t 1 = 0 := by decide +kernel
/-- The block of the gate codes at each point of the first kernel's grid. -/
theorem ix0_1 : ∀ t : Fin cfg0.N, win0_1.index t 0 = t.val ∧ win0_1.index t 1 = 0 := by decide +kernel
/-- The block of the gate scales at each point of the first kernel's grid. -/
theorem ix0_2 : ∀ t : Fin cfg0.N, win0_2.index t 0 = 0 ∧ win0_2.index t 1 = t.val := by decide +kernel
/-- The block of the up codes at each point of the first kernel's grid. -/
theorem ix0_3 : ∀ t : Fin cfg0.N, win0_3.index t 0 = t.val ∧ win0_3.index t 1 = 0 := by decide +kernel
/-- The block of the up scales at each point of the first kernel's grid. -/
theorem ix0_4 : ∀ t : Fin cfg0.N, win0_4.index t 0 = 0 ∧ win0_4.index t 1 = t.val := by decide +kernel
/-- The block of the output at each point of the first kernel's grid. -/
theorem ix0_5 : ∀ t : Fin cfg0.N, win0_5.index t 0 = 0 ∧ win0_5.index t 1 = t.val := by decide +kernel

variable (V : (c : Dev nD) → (b : Ref sig .tc) → Buf (Elt Ideal) ((c : Thread nD τ).loc b))

/-- The first kernel's output array, its scales finite. -/
theorem mid_eq (c : Dev nD) (h2 : ∀ y : S144x9216.Idx, ∃ r : ℝ, V c main_v1 y = (r : EReal)) (h4 : ∀ y : S144x9216.Idx, ∃ r : ℝ, V c main_v2 y = (r : EReal)) :
    (dat0 V c).arrAt 5 cfg0.N = (fun y : S256x9216.Idx =>
      glu (dotW (NG := 144) rfl rfl (fun k => V c main_v0 (ValueIdx.ix2 (y 0) k : S256x4608.Idx)) (fun j => V c main_arg1 (ValueIdx.ix2 (y 1) j : S9216x2304.Idx))
            (fun g => V c main_v1 (ValueIdx.ix2 g (y 1) : S144x9216.Idx)))
          (dotW (NG := 144) rfl rfl (fun k => V c main_v0 (ValueIdx.ix2 (y 0) k : S256x4608.Idx)) (fun j => V c main_arg3 (ValueIdx.ix2 (y 1) j : S9216x2304.Idx))
            (fun g => V c main_v2 (ValueIdx.ix2 g (y 1) : S144x9216.Idx)))) := by
  refine (dat0 V c).arrAt_eq_of_covers 5 _ (by decide +kernel) fun t hf y => ?_
  blk_simp
  rw [after0_5]
  unfold outsAt0
  obtain ⟨m, l, rfl⟩ : ∃ (m : Fin 256) (l : Fin 256), y = ValueIdx.ix2 m l := ⟨y 0, y 1, ValueIdx.eq_ix2 y⟩
  refine (out0_apply _ _ _ _ _ _ _ _ _ _ _ _ _ _ _ _ _ _ _ _ _ _ _ _ _ _ _ (fun y => h2 _) (fun y => h4 _) m l).trans ?_
  have E0 : (((win0_5.blk t).view.emb (ValueIdx.ix2 m l) : S256x9216.Idx) 0).val = m.val := by
    blk_simp [(ix0_5 t).1, (ix0_5 t).2]; rfl
  have E1 : (((win0_5.blk t).view.emb (ValueIdx.ix2 m l) : S256x9216.Idx) 1).val = t.val * 256 + l.val := by
    blk_simp [(ix0_5 t).1, (ix0_5 t).2]; rfl
  have e0 : ∀ k : Fin 4608, ((win0_0.blk t).view.emb (ValueIdx.ix2 m k) : S256x4608.Idx) = ValueIdx.ix2 (((win0_5.blk t).view.emb (ValueIdx.ix2 m l) : S256x9216.Idx) 0) k := fun k => by
    funext a
    match a with
    | ⟨0, _⟩ => refine Fin.ext (Eq.trans ?_ E0.symm); blk_simp [(ix0_0 t).1, (ix0_0 t).2]
    | ⟨1, _⟩ => refine Fin.ext ?_; blk_simp [(ix0_0 t).1, (ix0_0 t).2]; try rfl
  have e1 : ∀ j : Fin 2304, ((win0_1.blk t).view.emb (ValueIdx.ix2 l j) : S9216x2304.Idx) = ValueIdx.ix2 (((win0_5.blk t).view.emb (ValueIdx.ix2 m l) : S256x9216.Idx) 1) j := fun j => by
    funext a
    match a with
    | ⟨0, _⟩ => refine Fin.ext (Eq.trans ?_ E1.symm); blk_simp [(ix0_1 t).1, (ix0_1 t).2]
    | ⟨1, _⟩ => refine Fin.ext ?_; blk_simp [(ix0_1 t).1, (ix0_1 t).2]; try rfl
  have e2 : ∀ g : Fin 144, ((win0_2.blk t).view.emb (ValueIdx.ix2 g l) : S144x9216.Idx) = ValueIdx.ix2 g (((win0_5.blk t).view.emb (ValueIdx.ix2 m l) : S256x9216.Idx) 1) := fun g => by
    funext a
    match a with
    | ⟨0, _⟩ => refine Fin.ext ?_; blk_simp [(ix0_2 t).1, (ix0_2 t).2]; try rfl
    | ⟨1, _⟩ => refine Fin.ext (Eq.trans ?_ E1.symm); blk_simp [(ix0_2 t).1, (ix0_2 t).2]
  have e3 : ∀ j : Fin 2304, ((win0_3.blk t).view.emb (ValueIdx.ix2 l j) : S9216x2304.Idx) = ValueIdx.ix2 (((win0_5.blk t).view.emb (ValueIdx.ix2 m l) : S256x9216.Idx) 1) j := fun j => by
    funext a
    match a with
    | ⟨0, _⟩ => refine Fin.ext (Eq.trans ?_ E1.symm); blk_simp [(ix0_3 t).1, (ix0_3 t).2]
    | ⟨1, _⟩ => refine Fin.ext ?_; blk_simp [(ix0_3 t).1, (ix0_3 t).2]; try rfl
  have e4 : ∀ g : Fin 144, ((win0_4.blk t).view.emb (ValueIdx.ix2 g l) : S144x9216.Idx) = ValueIdx.ix2 g (((win0_5.blk t).view.emb (ValueIdx.ix2 m l) : S256x9216.Idx) 1) := fun g => by
    funext a
    match a with
    | ⟨0, _⟩ => refine Fin.ext ?_; blk_simp [(ix0_4 t).1, (ix0_4 t).2]; try rfl
    | ⟨1, _⟩ => refine Fin.ext (Eq.trans ?_ E1.symm); blk_simp [(ix0_4 t).1, (ix0_4 t).2]
  exact congrArg₂ glu
    (congr (congr (congrArg _ (funext fun k => congrArg (V c main_v0) (e0 k))) (funext fun j => congrArg (V c main_arg1) (e1 j)))
      (funext fun g => congrArg (V c main_v1) (e2 g)))
    (congr (congr (congrArg _ (funext fun k => congrArg (V c main_v0) (e0 k))) (funext fun j => congrArg (V c main_arg3) (e3 j)))
      (funext fun g => congrArg (V c main_v2) (e4 g)))

/-- The block of the hidden layer at each point of the second kernel's grid. -/
theorem ix1_0 : ∀ t : Fin cfg1.N, win1_0.index t 0 = 0 ∧ win1_0.index t 1 = 0 := by decide +kernel
/-- The block of the down codes at each point of the second kernel's grid. -/
theorem ix1_1 : ∀ t : Fin cfg1.N, win1_1.index t 0 = t.val ∧ win1_1.index t 1 = 0 := by decide +kernel
/-- The block of the down scales at each point of the second kernel's grid. -/
theorem ix1_2 : ∀ t : Fin cfg1.N, win1_2.index t 0 = 0 ∧ win1_2.index t 1 = t.val := by decide +kernel
/-- The block of the output at each point of the second kernel's grid. -/
theorem ix1_3 : ∀ t : Fin cfg1.N, win1_3.index t 0 = 0 ∧ win1_3.index t 1 = t.val := by decide +kernel

/-- The second kernel's output array, its scales finite. -/
theorem out_eq (c : Dev nD) (h3 : ∀ y : S288x4608.Idx, ∃ r : ℝ, V c main_v3 y = (r : EReal)) :
    (dat1 V c).arrAt 3 cfg1.N = (fun y : S256x4608.Idx =>
      dotW (NG := 288) rfl rfl (fun k => V c main_v4 (ValueIdx.ix2 (y 0) k : S256x9216.Idx)) (fun j => V c main_arg5 (ValueIdx.ix2 (y 1) j : S4608x4608.Idx))
        (fun g => V c main_v3 (ValueIdx.ix2 g (y 1) : S288x4608.Idx))) := by
  refine (dat1 V c).arrAt_eq_of_covers 3 _ (by decide +kernel) fun t hf y => ?_
  blk_simp
  rw [after1_3]
  unfold outsAt1
  obtain ⟨m, l, rfl⟩ : ∃ (m : Fin 256) (l : Fin 256), y = ValueIdx.ix2 m l := ⟨y 0, y 1, ValueIdx.eq_ix2 y⟩
  refine (out1_apply _ _ _ _ _ _ _ _ _ _ _ _ _ _ _ _ _ _ _ (fun y => h3 _) m l).trans ?_
  have E0 : (((win1_3.blk t).view.emb (ValueIdx.ix2 m l) : S256x4608.Idx) 0).val = m.val := by
    blk_simp [(ix1_3 t).1, (ix1_3 t).2]; rfl
  have E1 : (((win1_3.blk t).view.emb (ValueIdx.ix2 m l) : S256x4608.Idx) 1).val = t.val * 256 + l.val := by
    blk_simp [(ix1_3 t).1, (ix1_3 t).2]; rfl
  have e0 : ∀ k : Fin 9216, ((win1_0.blk t).view.emb (ValueIdx.ix2 m k) : S256x9216.Idx) = ValueIdx.ix2 (((win1_3.blk t).view.emb (ValueIdx.ix2 m l) : S256x4608.Idx) 0) k := fun k => by
    funext a
    match a with
    | ⟨0, _⟩ => refine Fin.ext (Eq.trans ?_ E0.symm); blk_simp [(ix1_0 t).1, (ix1_0 t).2]
    | ⟨1, _⟩ => refine Fin.ext ?_; blk_simp [(ix1_0 t).1, (ix1_0 t).2]; try rfl
  have e1 : ∀ j : Fin 4608, ((win1_1.blk t).view.emb (ValueIdx.ix2 l j) : S4608x4608.Idx) = ValueIdx.ix2 (((win1_3.blk t).view.emb (ValueIdx.ix2 m l) : S256x4608.Idx) 1) j := fun j => by
    funext a
    match a with
    | ⟨0, _⟩ => refine Fin.ext (Eq.trans ?_ E1.symm); blk_simp [(ix1_1 t).1, (ix1_1 t).2]
    | ⟨1, _⟩ => refine Fin.ext ?_; blk_simp [(ix1_1 t).1, (ix1_1 t).2]; try rfl
  have e2 : ∀ g : Fin 288, ((win1_2.blk t).view.emb (ValueIdx.ix2 g l) : S288x4608.Idx) = ValueIdx.ix2 g (((win1_3.blk t).view.emb (ValueIdx.ix2 m l) : S256x4608.Idx) 1) := fun g => by
    funext a
    match a with
    | ⟨0, _⟩ => refine Fin.ext ?_; blk_simp [(ix1_2 t).1, (ix1_2 t).2]; try rfl
    | ⟨1, _⟩ => refine Fin.ext (Eq.trans ?_ E1.symm); blk_simp [(ix1_2 t).1, (ix1_2 t).2]
  exact (congr (congr (congrArg _ (funext fun k => congrArg (V c main_v4) (e0 k))) (funext fun j => congrArg (V c main_arg5) (e1 j)))
      (funext fun g => congrArg (V c main_v3) (e2 g)))

end Cert.Proof

end
-- ==== Proof.Value.lean ====
module

public import proofs.«01_k».proof.Proof.Arrays

@[expose] public section

set_option maxRecDepth 16384

noncomputable section

namespace Cert.Proof

open Cert.KernelIdeal Cert.KernelIdeal.Gen
open Idealize.ShloMosaic Idealize.ShloMosaic.TcCoe

/-- One value of the hidden layer: row `a` of the input against rows `n` of the gate and up weights, gated. -/
def hid (x : S256x1x4608.Idx → EReal) (gq : S9216x2304.Idx → BitVec 8) (gs : S9216x144.Idx → EReal)
    (uq : S9216x2304.Idx → BitVec 8) (us : S9216x144.Idx → EReal) (a : Fin 256) (n : Fin 9216) : EReal :=
  glu (dotW (NG := 144) rfl rfl (fun k => x (ValueIdx.ix3 a (0 : Fin 1) k)) (fun j => gq (ValueIdx.ix2 n j)) (fun g => gs (ValueIdx.ix2 n g)))
    (dotW (NG := 144) rfl rfl (fun k => x (ValueIdx.ix3 a (0 : Fin 1) k)) (fun j => uq (ValueIdx.ix2 n j)) (fun g => us (ValueIdx.ix2 n g)))

/-- The whole layer: the hidden values against the down weights. -/
def mlp (x : S256x1x4608.Idx → EReal) (gq : S9216x2304.Idx → BitVec 8) (gs : S9216x144.Idx → EReal)
    (uq : S9216x2304.Idx → BitVec 8) (us : S9216x144.Idx → EReal) (dq : S4608x4608.Idx → BitVec 8) (ds : S4608x288.Idx → EReal) :
    S256x1x4608.Idx → EReal := fun y =>
  dotW (NG := 288) rfl rfl (fun k => hid x gq gs uq us (y 0) k) (fun j => dq (ValueIdx.ix2 (y 2) j)) (fun g => ds (ValueIdx.ix2 (y 2) g))

/-- Sums over weights agree when rows, codes and scales do. -/
theorem dotW_congr {NQ NG NW : ℕ} (hQ : NQ = 16 * NG) (hW : NW = 32 * NG) {x x' : Fin NW → EReal} {q q' : Fin NQ → BitVec 8}
    {s s' : Fin NG → EReal} (hx : ∀ k, x k = x' k) (hq : ∀ j, q j = q' j) (hs : ∀ g, s g = s' g) :
    dotW hQ hW x q s = dotW hQ hW x' q' s' := by
  rw [funext hx, funext hq, funext hs]

variable (m : (ℓ : Loc nD τ sig) → Buf (Elt Ideal) ℓ) (ρ : Dev nD → PrngReg) (c : Dev nD)

/-- The first kernel's input is the argument, its unit axis dropped. -/
theorem V1_v0 (a : Fin 256) (k : Fin 4608) : V1 m ρ c main_v0 (ValueIdx.ix2 a k : S256x4608.Idx)
    = m ((c.tc : Thread nD τ).loc main_arg0) (ValueIdx.ix3 a (0 : Fin 1) k : S256x1x4608.Idx) := by
  show StableHlo.after hostOps0 _ (Proc.devRef .tc main_v0) _ = _
  after_results
  simp only [← ix2_eq_valueIdx, ← ix3_eq_valueIdx]
  pointwise
  all_goals rfl

/-- The gate scales are transposed. -/
theorem V1_v1 (g : Fin 144) (n : Fin 9216) : V1 m ρ c main_v1 (ValueIdx.ix2 g n : S144x9216.Idx)
    = m ((c.tc : Thread nD τ).loc main_arg2) (ValueIdx.ix2 n g : S9216x144.Idx) := by
  show StableHlo.after hostOps0 _ (Proc.devRef .tc main_v1) _ = _
  after_results
  simp only [← ix2_eq_valueIdx]
  pointwise
  all_goals rfl

/-- The up scales are transposed. -/
theorem V1_v2 (g : Fin 144) (n : Fin 9216) : V1 m ρ c main_v2 (ValueIdx.ix2 g n : S144x9216.Idx)
    = m ((c.tc : Thread nD τ).loc main_arg4) (ValueIdx.ix2 n g : S9216x144.Idx) := by
  show StableHlo.after hostOps0 _ (Proc.devRef .tc main_v2) _ = _
  after_results
  simp only [← ix2_eq_valueIdx]
  pointwise
  all_goals rfl

/-- The down scales are transposed, before the first kernel. -/
theorem W1_v3 (g : Fin 288) (n : Fin 4608) : V1 m ρ c main_v3 (ValueIdx.ix2 g n : S288x4608.Idx)
    = m ((c.tc : Thread nD τ).loc main_arg6) (ValueIdx.ix2 n g : S4608x288.Idx) := by
  show StableHlo.after hostOps0 _ (Proc.devRef .tc main_v3) _ = _
  after_results
  simp only [← ix2_eq_valueIdx]
  pointwise
  all_goals rfl

/-- The second kernel finds the down scales as the host left them. -/
theorem V2_v3 (g : Fin 288) (n : Fin 4608) : V2 m ρ c main_v3 (ValueIdx.ix2 g n : S288x4608.Idx)
    = m ((c.tc : Thread nD τ).loc main_arg6) (ValueIdx.ix2 n g : S4608x288.Idx) :=
  (congrFun (W2_of m ρ c main_v3 (by decide)) _).trans (W1_v3 m ρ c g n)

/-- The second kernel finds the down codes as launched. -/
theorem V2_arg5 : V2 m ρ c main_arg5 = m ((c.tc : Thread nD τ).loc main_arg5) := W2_args m ρ c main_arg5 (by decide)

/-- The result array is the second kernel's output with the unit axis put back. -/
theorem W4_v6 (y : S256x1x4608.Idx) : W4 m ρ c (Proc.devRef .tc main_v6) y
    = (dat1 (V2 m ρ) c).arrAt 3 cfg1.N (ValueIdx.ix2 (y 0) (y 2) : S256x4608.Idx) := by
  have h5 := W3_arr m ρ c 3
  show StableHlo.after hostOps2 _ (Proc.devRef .tc main_v6) _ = _
  after_results
  rw [← h5]
  obtain ⟨a, z, n, rfl⟩ : ∃ (a : Fin 256) (z : Fin 1) (n : Fin 4608), y = ValueIdx.ix3 a z n := ⟨y 0, y 1, y 2, ValueIdx.eq_ix3 y⟩
  simp only [← ix2_eq_valueIdx, ← ix3_eq_valueIdx]
  pointwise
  all_goals rfl

/-- The kernel's result is the layer of the arguments, the scales finite. -/
theorem result_eq (h2 : ∀ y, ∃ r : ℝ, m ((c.tc : Thread nD τ).loc main_arg2) y = (r : EReal))
    (h4 : ∀ y, ∃ r : ℝ, m ((c.tc : Thread nD τ).loc main_arg4) y = (r : EReal))
    (h6 : ∀ y, ∃ r : ℝ, m ((c.tc : Thread nD τ).loc main_arg6) y = (r : EReal)) :
    W4 m ρ c (Proc.devRef .tc main_v6)
      = mlp (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) := by
  have e1 : V1 m ρ c main_arg1 = m ((c.tc : Thread nD τ).loc main_arg1) := W1_args m ρ c main_arg1 (by decide)
  have e3 : V1 m ρ c main_arg3 = m ((c.tc : Thread nD τ).loc main_arg3) := W1_args m ρ c main_arg3 (by decide)
  have emid : V2 m ρ c main_v4 = (dat0 (V1 m ρ) c).arrAt 5 cfg0.N := W2_arr m ρ c 5
  have f1 : ∀ y : S144x9216.Idx, ∃ r : ℝ, V1 m ρ c main_v1 y = (r : EReal) := fun y => by
    obtain ⟨g, n, rfl⟩ : ∃ (g : Fin 144) (n : Fin 9216), y = ValueIdx.ix2 g n := ⟨y 0, y 1, ValueIdx.eq_ix2 y⟩
    rw [V1_v1]; exact h2 _
  have f2 : ∀ y : S144x9216.Idx, ∃ r : ℝ, V1 m ρ c main_v2 y = (r : EReal) := fun y => by
    obtain ⟨g, n, rfl⟩ : ∃ (g : Fin 144) (n : Fin 9216), y = ValueIdx.ix2 g n := ⟨y 0, y 1, ValueIdx.eq_ix2 y⟩
    rw [V1_v2]; exact h4 _
  have f3 : ∀ y : S288x4608.Idx, ∃ r : ℝ, V2 m ρ c main_v3 y = (r : EReal) := fun y => by
    obtain ⟨g, n, rfl⟩ : ∃ (g : Fin 288) (n : Fin 4608), y = ValueIdx.ix2 g n := ⟨y 0, y 1, ValueIdx.eq_ix2 y⟩
    rw [V2_v3]; exact h6 _
  funext y
  refine (W4_v6 m ρ c y).trans ((congrFun (out_eq (V2 m ρ) c f3) _).trans ?_)
  refine dotW_congr _ _ (fun k => ?_) (fun j => congrFun (V2_arg5 m ρ c) _) (fun g => V2_v3 m ρ c g _)
  refine (congrFun (emid.trans (mid_eq (V1 m ρ) c f1 f2)) _).trans ?_
  exact congrArg₂ glu
    (dotW_congr _ _ (fun k => V1_v0 m ρ c _ k) (fun j => congrFun e1 _) (fun g => V1_v1 m ρ c g _))
    (dotW_congr _ _ (fun k => V1_v0 m ρ c _ k) (fun j => congrFun e3 _) (fun g => V1_v2 m ρ c g _))

end Cert.Proof

end
-- ==== Proof.Ref.lean ====
module

public import proofs.«01_k».proof.Proof.Order
public import proofs.«01_k».proof.Proof.Value
public import proofs.«01_k».proof.Proof.Gen.ReferenceIdeal.Read

@[expose] public section

set_option maxRecDepth 16384

noncomputable section

namespace Cert.Proof

open Cert.ReferenceIdeal Cert.ReferenceIdeal.Gen Cert.ReferenceIdeal.Read
open Idealize.ShloMosaic Idealize.ShloMosaic.TcCoe

/-- The reference's low code: the byte masked as a 32-bit word. -/
theorem low_code (b : BitVec 8) : FloatOps.sitofp (F := Ideal) .f32 (IntOp.andi (b.setWidth 32) 15#32) = ((nib b 0 : ℝ) : EReal) := by
  have h : (IntOp.andi (b.setWidth 32) 15#32).toInt = nib b 0 := by revert b; decide +kernel
  show (((IntOp.andi (b.setWidth 32) 15#32).toInt : ℝ) : EReal) = _
  rw [h]

/-- The reference's high code: the byte shifted as a 32-bit word. -/
theorem high_code (b : BitVec 8) : FloatOps.sitofp (F := Ideal) .f32 (IntOp.shrsi .host (b.setWidth 32) 4#32) = ((nib b 1 : ℝ) : EReal) := by
  have h : (IntOp.shrsi .host (b.setWidth 32) 4#32).toInt = nib b 1 := by revert b; decide +kernel
  show (((IntOp.shrsi .host (b.setWidth 32) 4#32).toInt : ℝ) : EReal) = _
  rw [h]

/-- The codes' offset. -/
theorem ofBits_eight : FloatOps.ofBits (F := Ideal) .f32 0x41000000#32 = ((8 : ℝ) : EReal) := by
  show Ideal.ofBits .f32 0x41000000#32 = _
  simp [Ideal.ofBits, Ideal.ieee, -EReal.coe_mul]; norm_num

/-- The reference's gate (or up) weights from the low nibbles. -/
theorem gate_low (q : S9216x2304.Idx → BitVec 8) (s : S9216x144.Idx → EReal) (i : S9216x2304.Idx) :
    val_main_v10 (F := Ideal) q s i = wk (q i) 0 (s (idx_main_v2 (idx_main_v3 i))) := by
  rw [val_main_v10_apply, val_main_v9_apply, val_main_v8_apply, val_main_v7_apply, val_main_v6_apply, val_main_v5_apply, val_main_v4_apply,
    val_main_v3_apply, val_main_v2_apply, val_main_v1_apply]
  show ((FloatOps.sitofp (F := Ideal) .f32 (IntOp.andi ((q i).setWidth 32) 15#32) : EReal) - (FloatOps.ofBits (F := Ideal) .f32 0x41000000#32 : EReal)) * _ = _
  rw [low_code, ofBits_eight]
  rfl

/-- The reference's gate (or up) weights from the high nibbles. -/
theorem gate_high (q : S9216x2304.Idx → BitVec 8) (s : S9216x144.Idx → EReal) (i : S9216x2304.Idx) :
    val_main_v17 (F := Ideal) q s i = wk (q i) 1 (s (idx_main_v2 (idx_main_v3 i))) := by
  rw [val_main_v17_apply, val_main_v16_apply, val_main_v15_apply, val_main_v14_apply, val_main_v13_apply, val_main_v12_apply, val_main_v11_apply,
    val_main_v3_apply, val_main_v2_apply, val_main_v1_apply]
  show ((FloatOps.sitofp (F := Ideal) .f32 (IntOp.shrsi .host ((q i).setWidth 32) 4#32) : EReal) - (FloatOps.ofBits (F := Ideal) .f32 0x41000000#32 : EReal)) * _ = _
  rw [high_code, ofBits_eight]
  rfl

/-- The column the reference's reshape, transpose and reshape of the input read for the term `k`, in the low half. -/
theorem col_low (a k : ℕ) (h : k < 2304) :
    ((((a * 4608 + k) / 4608 * 144 + (a * 4608 + k) / 16 % 144) * 2 + (a * 4608 + k) / 2304 % 2) * 16 + (a * 4608 + k) % 16) / 4608 = a
    ∧ ((((a * 4608 + k) / 4608 * 144 + (a * 4608 + k) / 16 % 144) * 2 + (a * 4608 + k) / 2304 % 2) * 16 + (a * 4608 + k) % 16) % 4608
      = k / 16 * 32 + k % 16 := by
  rw [show (a * 4608 + k) / 4608 = a by omega, show (a * 4608 + k) / 16 % 144 = k / 16 by omega, show (a * 4608 + k) / 2304 % 2 = 0 by omega,
    show (a * 4608 + k) % 16 = k % 16 by omega]
  omega

/-- The same in the high half. -/
theorem col_high (a k : ℕ) (h : 2304 ≤ k) (h' : k < 4608) :
    ((((a * 4608 + k) / 4608 * 144 + (a * 4608 + k) / 16 % 144) * 2 + (a * 4608 + k) / 2304 % 2) * 16 + (a * 4608 + k) % 16) / 4608 = a
    ∧ ((((a * 4608 + k) / 4608 * 144 + (a * 4608 + k) / 16 % 144) * 2 + (a * 4608 + k) / 2304 % 2) * 16 + (a * 4608 + k) % 16) % 4608
      = (k - 2304) / 16 * 32 + 16 + (k - 2304) % 16 := by
  rw [show (a * 4608 + k) / 4608 = a by omega, show (a * 4608 + k) / 16 % 144 = (k - 2304) / 16 by omega,
    show (a * 4608 + k) / 2304 % 2 = 1 by omega, show (a * 4608 + k) % 16 = (k - 2304) % 16 by omega]
  omega

/-- The reference's reordered input, as a function of the flat one. -/
theorem act_apply (x : S256x1x4608.Idx → EReal) (a : Fin 256) (n : Fin 9216) (k : Fin 4608) (r : Fin 4608)
    (hr : ((((a.val * 4608 + k.val) / 4608 * 144 + (a.val * 4608 + k.val) / 16 % 144) * 2 + (a.val * 4608 + k.val) / 2304 % 2) * 16 + (a.val * 4608 + k.val) % 16) / 4608 = a.val
      ∧ ((((a.val * 4608 + k.val) / 4608 * 144 + (a.val * 4608 + k.val) / 16 % 144) * 2 + (a.val * 4608 + k.val) / 2304 % 2) * 16 + (a.val * 4608 + k.val) % 16) % 4608
        = r.val) :
    val_main_v21 (F := Ideal) x (lidx_main_v22 (ValueIdx.ix2 a n : S256x9216.Idx) k) = x (ValueIdx.ix3 a (0 : Fin 1) r) := by
  have e : idx_main_v19 (idx_main_v20 (idx_main_v21 (lidx_main_v22 (ValueIdx.ix2 a n : S256x9216.Idx) k))) = (ValueIdx.ix2 a r : S256x4608.Idx) := by
    funext b
    match b with
    | ⟨0, _⟩ => exact Fin.ext hr.1
    | ⟨1, _⟩ => exact Fin.ext hr.2
  rw [val_main_v21_apply, val_main_v20_apply, val_main_v19_apply, e, val_main_v0_apply]
  refine congrArg x (funext fun b => Fin.ext ?_)
  have h1 := r.isLt
  match b with
  | ⟨0, _⟩ => exact (show (a.val * 4608 + r.val) / 4608 = a.val by omega)
  | ⟨1, _⟩ => rfl
  | ⟨2, _⟩ => exact (show (a.val * 4608 + r.val) % 4608 = r.val by omega)

/-- The reference's repeated scales at a byte: its group's. -/
theorem scale_apply (s : S9216x144.Idx → EReal) (n : Fin 9216) (k : Fin 2304) (g : Fin 144) (hg : k.val / 16 = g.val) :
    s (idx_main_v2 (idx_main_v3 (ValueIdx.ix2 n k : S9216x2304.Idx))) = s (ValueIdx.ix2 n g) := by
  refine congrArg s (funext fun b => Fin.ext ?_)
  have h1 := k.isLt
  match b with
  | ⟨0, _⟩ => exact (show (n.val * 2304 + k.val) / 2304 = n.val by omega)
  | ⟨1, _⟩ => exact (show (n.val * 2304 + k.val) / 16 % 144 = g.val by omega)

/-- The reference's joined gate (or up) weights, in the low half. -/
theorem weight_low (q : S9216x2304.Idx → BitVec 8) (s : S9216x144.Idx → EReal) (a : Fin 256) (n : Fin 9216) (k : Fin 4608) (h : k.val < 2304)
    (g : Fin 144) (hg : k.val / 16 = g.val) :
    val_main_v18 (F := Ideal) q s (ridx_main_v22 (ValueIdx.ix2 a n : S256x9216.Idx) k)
      = wk (q (ValueIdx.ix2 n (⟨k.val, h⟩ : Fin 2304))) 0 (s (ValueIdx.ix2 n g)) := by
  unfold val_main_v18
  refine (concatenate_pair_apply_left (t := S9216x4608) (s₁ := S9216x2304) (s₂ := S9216x2304) 1 (val_main_v10 (F := Ideal) q s) (val_main_v17 (F := Ideal) q s)
    concatenates_S9216x2304_S9216x2304_S9216x4608_d1 _ rfl (ValueIdx.ix2 n (⟨k.val, h⟩ : Fin 2304)) (fun b => ?_)).trans ?_
  · match b with
    | ⟨0, _⟩ => rfl
    | ⟨1, _⟩ => rfl
  · rw [gate_low, scale_apply s n _ g hg]

/-- The reference's joined gate (or up) weights, in the high half. -/
theorem weight_high (q : S9216x2304.Idx → BitVec 8) (s : S9216x144.Idx → EReal) (a : Fin 256) (n : Fin 9216) (k : Fin 4608) (j : Fin 2304)
    (hj : j.val + 2304 = k.val) (g : Fin 144) (hg : j.val / 16 = g.val) :
    val_main_v18 (F := Ideal) q s (ridx_main_v22 (ValueIdx.ix2 a n : S256x9216.Idx) k)
      = wk (q (ValueIdx.ix2 n j)) 1 (s (ValueIdx.ix2 n g)) := by
  unfold val_main_v18
  refine (concatenate_pair_apply_right (t := S9216x4608) (s₁ := S9216x2304) (s₂ := S9216x2304) 1 (val_main_v10 (F := Ideal) q s) (val_main_v17 (F := Ideal) q s)
    concatenates_S9216x2304_S9216x2304_S9216x4608_d1 _ rfl rfl (ValueIdx.ix2 n j) (fun b hb => ?_) ?_).trans ?_
  · match b with
    | ⟨0, _⟩ => rfl
    | ⟨1, _⟩ => exact absurd rfl hb
  · exact hj
  · rw [gate_high, scale_apply s n _ g hg]

/-- The reference's gate (or up) product at an element. -/
theorem gate_dot (x : S256x1x4608.Idx → EReal) (q : S9216x2304.Idx → BitVec 8) (s : S9216x144.Idx → EReal) (a : Fin 256) (n : Fin 9216) :
    val_main_v22 (F := Ideal) x q s (ValueIdx.ix2 a n)
      = dotW (NG := 144) rfl rfl (fun k => x (ValueIdx.ix3 a (0 : Fin 1) k)) (fun j => q (ValueIdx.ix2 n j)) (fun g => s (ValueIdx.ix2 n g)) := by
  rw [val_main_v22_apply]
  refine sum_perm (NQ := 2304) (NG := 144) (NW := 4608) rfl rfl (fun k => x (ValueIdx.ix3 a (0 : Fin 1) k)) (fun j => q (ValueIdx.ix2 n j)) (fun g => s (ValueIdx.ix2 n g)) _
    (fun κ h => ?_) (fun κ h => ?_)
  · exact congrArg₂ (· * ·) (act_apply x a n κ _ (col_low a.val κ.val h)) (weight_low q s a n κ h _ rfl)
  · exact congrArg₂ (· * ·) (act_apply x a n κ _ (col_high a.val κ.val (by omega) κ.isLt))
      (weight_high q s a n κ _ (Nat.sub_add_cancel (by omega)) _ rfl)

/-- The reference's gated product at an element. -/
theorem hidden_apply (x : S256x1x4608.Idx → EReal) (gq : S9216x2304.Idx → BitVec 8) (gs : S9216x144.Idx → EReal)
    (uq : S9216x2304.Idx → BitVec 8) (us : S9216x144.Idx → EReal) (a : Fin 256) (n : Fin 9216) :
    val_main_v47 (F := Ideal) x gq gs uq us (ValueIdx.ix2 a n) = hid x gq gs uq us a n := by
  have hu : val_main_v44 (F := Ideal) x uq us = val_main_v22 (F := Ideal) x uq us := rfl
  rw [val_main_v47_apply, val_main_v46_apply, val_main_v45_apply, val_main_call0_v5_apply, val_main_call0_v4_apply, val_main_call0_v3_apply,
    val_main_call0_v2_apply, val_main_call0_v1_apply, val_main_call0_v0_apply, hu, gate_dot, gate_dot]
  unfold hid glu
  generalize dotW (NG := 144) _ _ _ (fun j => gq (ValueIdx.ix2 n j)) _ = g
  generalize dotW (NG := 144) _ _ _ (fun j => uq (ValueIdx.ix2 n j)) _ = u
  have h1 : FloatOps.ofBits (F := Ideal) .f32 0x3F800000#32 = (1 : EReal) := Ideal.ofBits_one_f32
  rw [val_main_call0_cst_apply, val_main_call0_cst_0_apply, h1]
  rfl

/-! ## The down product, in the same steps -/

/-- The reference's down weights from the low nibbles. -/
theorem down_low (q : S4608x4608.Idx → BitVec 8) (s : S4608x288.Idx → EReal) (i : S4608x4608.Idx) :
    val_main_v57 (F := Ideal) q s i = wk (q i) 0 (s (idx_main_v49 (idx_main_v50 i))) := by
  rw [val_main_v57_apply, val_main_v56_apply, val_main_v55_apply, val_main_v54_apply, val_main_v53_apply, val_main_v52_apply, val_main_v51_apply,
    val_main_v50_apply, val_main_v49_apply, val_main_v48_apply]
  show ((FloatOps.sitofp (F := Ideal) .f32 (IntOp.andi ((q i).setWidth 32) 15#32) : EReal) - (FloatOps.ofBits (F := Ideal) .f32 0x41000000#32 : EReal)) * _ = _
  rw [low_code, ofBits_eight]
  rfl

/-- The reference's down weights from the high nibbles. -/
theorem down_high (q : S4608x4608.Idx → BitVec 8) (s : S4608x288.Idx → EReal) (i : S4608x4608.Idx) :
    val_main_v64 (F := Ideal) q s i = wk (q i) 1 (s (idx_main_v49 (idx_main_v50 i))) := by
  rw [val_main_v64_apply, val_main_v63_apply, val_main_v62_apply, val_main_v61_apply, val_main_v60_apply, val_main_v59_apply, val_main_v58_apply,
    val_main_v50_apply, val_main_v49_apply, val_main_v48_apply]
  show ((FloatOps.sitofp (F := Ideal) .f32 (IntOp.shrsi .host ((q i).setWidth 32) 4#32) : EReal) - (FloatOps.ofBits (F := Ideal) .f32 0x41000000#32 : EReal)) * _ = _
  rw [high_code, ofBits_eight]
  rfl

/-- The column the reference's reshape, transpose and reshape of the hidden layer read for the term `k`, in the low half. -/
theorem dcol_low (a k : ℕ) (h : k < 4608) :
    ((((a * 9216 + k) / 9216 * 288 + (a * 9216 + k) / 16 % 288) * 2 + (a * 9216 + k) / 4608 % 2) * 16 + (a * 9216 + k) % 16) / 9216 = a
    ∧ ((((a * 9216 + k) / 9216 * 288 + (a * 9216 + k) / 16 % 288) * 2 + (a * 9216 + k) / 4608 % 2) * 16 + (a * 9216 + k) % 16) % 9216
      = k / 16 * 32 + k % 16 := by
  rw [show (a * 9216 + k) / 9216 = a by omega, show (a * 9216 + k) / 16 % 288 = k / 16 by omega, show (a * 9216 + k) / 4608 % 2 = 0 by omega,
    show (a * 9216 + k) % 16 = k % 16 by omega]
  omega

/-- The same in the high half. -/
theorem dcol_high (a k : ℕ) (h : 4608 ≤ k) (h' : k < 9216) :
    ((((a * 9216 + k) / 9216 * 288 + (a * 9216 + k) / 16 % 288) * 2 + (a * 9216 + k) / 4608 % 2) * 16 + (a * 9216 + k) % 16) / 9216 = a
    ∧ ((((a * 9216 + k) / 9216 * 288 + (a * 9216 + k) / 16 % 288) * 2 + (a * 9216 + k) / 4608 % 2) * 16 + (a * 9216 + k) % 16) % 9216
      = (k - 4608) / 16 * 32 + 16 + (k - 4608) % 16 := by
  rw [show (a * 9216 + k) / 9216 = a by omega, show (a * 9216 + k) / 16 % 288 = (k - 4608) / 16 by omega,
    show (a * 9216 + k) / 4608 % 2 = 1 by omega, show (a * 9216 + k) % 16 = (k - 4608) % 16 by omega]
  omega

/-- The reference's reordered hidden layer, as a function of the flat one. -/
theorem dact_apply (x : S256x1x4608.Idx → EReal) (gq : S9216x2304.Idx → BitVec 8) (gs : S9216x144.Idx → EReal)
    (uq : S9216x2304.Idx → BitVec 8) (us : S9216x144.Idx → EReal) (a : Fin 256) (n : Fin 4608) (k : Fin 9216) (r : Fin 9216)
    (hr : ((((a.val * 9216 + k.val) / 9216 * 288 + (a.val * 9216 + k.val) / 16 % 288) * 2 + (a.val * 9216 + k.val) / 4608 % 2) * 16 + (a.val * 9216 + k.val) % 16) / 9216 = a.val
      ∧ ((((a.val * 9216 + k.val) / 9216 * 288 + (a.val * 9216 + k.val) / 16 % 288) * 2 + (a.val * 9216 + k.val) / 4608 % 2) * 16 + (a.val * 9216 + k.val) % 16) % 9216
        = r.val) :
    val_main_v68 (F := Ideal) x gq gs uq us (lidx_main_v69 (ValueIdx.ix2 a n : S256x4608.Idx) k) = hid x gq gs uq us a r := by
  have e : idx_main_v66 (idx_main_v67 (idx_main_v68 (lidx_main_v69 (ValueIdx.ix2 a n : S256x4608.Idx) k))) = (ValueIdx.ix2 a r : S256x9216.Idx) := by
    funext b
    match b with
    | ⟨0, _⟩ => exact Fin.ext hr.1
    | ⟨1, _⟩ => exact Fin.ext hr.2
  rw [val_main_v68_apply, val_main_v67_apply, val_main_v66_apply, e, hidden_apply]

/-- The reference's repeated down scales at a byte: its group's. -/
theorem dscale_apply (s : S4608x288.Idx → EReal) (n : Fin 4608) (k : Fin 4608) (g : Fin 288) (hg : k.val / 16 = g.val) :
    s (idx_main_v49 (idx_main_v50 (ValueIdx.ix2 n k : S4608x4608.Idx))) = s (ValueIdx.ix2 n g) := by
  refine congrArg s (funext fun b => Fin.ext ?_)
  have h1 := k.isLt
  match b with
  | ⟨0, _⟩ => exact (show (n.val * 4608 + k.val) / 4608 = n.val by omega)
  | ⟨1, _⟩ => exact (show (n.val * 4608 + k.val) / 16 % 288 = g.val by omega)

/-- The reference's joined down weights, in the low half. -/
theorem dweight_low (q : S4608x4608.Idx → BitVec 8) (s : S4608x288.Idx → EReal) (a : Fin 256) (n : Fin 4608) (k : Fin 9216) (h : k.val < 4608)
    (g : Fin 288) (hg : k.val / 16 = g.val) :
    val_main_v65 (F := Ideal) q s (ridx_main_v69 (ValueIdx.ix2 a n : S256x4608.Idx) k)
      = wk (q (ValueIdx.ix2 n (⟨k.val, h⟩ : Fin 4608))) 0 (s (ValueIdx.ix2 n g)) := by
  unfold val_main_v65
  refine (concatenate_pair_apply_left (t := S4608x9216) (s₁ := S4608x4608) (s₂ := S4608x4608) 1 (val_main_v57 (F := Ideal) q s) (val_main_v64 (F := Ideal) q s)
    concatenates_S4608x4608_S4608x4608_S4608x9216_d1 _ rfl (ValueIdx.ix2 n (⟨k.val, h⟩ : Fin 4608)) (fun b => ?_)).trans ?_
  · match b with
    | ⟨0, _⟩ => rfl
    | ⟨1, _⟩ => rfl
  · rw [down_low, dscale_apply s n _ g hg]

/-- The reference's joined down weights, in the high half. -/
theorem dweight_high (q : S4608x4608.Idx → BitVec 8) (s : S4608x288.Idx → EReal) (a : Fin 256) (n : Fin 4608) (k : Fin 9216) (j : Fin 4608)
    (hj : j.val + 4608 = k.val) (g : Fin 288) (hg : j.val / 16 = g.val) :
    val_main_v65 (F := Ideal) q s (ridx_main_v69 (ValueIdx.ix2 a n : S256x4608.Idx) k)
      = wk (q (ValueIdx.ix2 n j)) 1 (s (ValueIdx.ix2 n g)) := by
  unfold val_main_v65
  refine (concatenate_pair_apply_right (t := S4608x9216) (s₁ := S4608x4608) (s₂ := S4608x4608) 1 (val_main_v57 (F := Ideal) q s) (val_main_v64 (F := Ideal) q s)
    concatenates_S4608x4608_S4608x4608_S4608x9216_d1 _ rfl rfl (ValueIdx.ix2 n j) (fun b hb => ?_) ?_).trans ?_
  · match b with
    | ⟨0, _⟩ => rfl
    | ⟨1, _⟩ => exact absurd rfl hb
  · exact hj
  · rw [down_high, dscale_apply s n _ g hg]

/-- The reference's down product at an element. -/
theorem down_dot (x : S256x1x4608.Idx → EReal) (gq : S9216x2304.Idx → BitVec 8) (gs : S9216x144.Idx → EReal)
    (uq : S9216x2304.Idx → BitVec 8) (us : S9216x144.Idx → EReal) (q : S4608x4608.Idx → BitVec 8) (s : S4608x288.Idx → EReal) (a : Fin 256) (n : Fin 4608) :
    val_main_v69 (F := Ideal) x gq gs uq us q s (ValueIdx.ix2 a n)
      = dotW (NG := 288) rfl rfl (fun k => hid x gq gs uq us a k) (fun j => q (ValueIdx.ix2 n j)) (fun g => s (ValueIdx.ix2 n g)) := by
  rw [val_main_v69_apply]
  refine sum_perm (NQ := 4608) (NG := 288) (NW := 9216) rfl rfl (fun k => hid x gq gs uq us a k) (fun j => q (ValueIdx.ix2 n j)) (fun g => s (ValueIdx.ix2 n g)) _
    (fun κ h => ?_) (fun κ h => ?_)
  · exact congrArg₂ (· * ·) (dact_apply x gq gs uq us a n κ _ (dcol_low a.val κ.val h)) (dweight_low q s a n κ h _ rfl)
  · exact congrArg₂ (· * ·) (dact_apply x gq gs uq us a n κ _ (dcol_high a.val κ.val (by omega) κ.isLt))
      (dweight_high q s a n κ _ (Nat.sub_add_cancel (by omega)) _ rfl)

/-- The reference's result is the layer of its arguments. -/
theorem reference_eq (x : S256x1x4608.Idx → EReal) (gq : S9216x2304.Idx → BitVec 8) (gs : S9216x144.Idx → EReal)
    (uq : S9216x2304.Idx → BitVec 8) (us : S9216x144.Idx → EReal) (q : S4608x4608.Idx → BitVec 8) (s : S4608x288.Idx → EReal) :
    val_main_v71 (F := Ideal) x gq gs uq us q s = mlp x gq gs uq us q s := by
  funext y
  obtain ⟨a, z, n, rfl⟩ : ∃ (a : Fin 256) (z : Fin 1) (n : Fin 4608), y = ValueIdx.ix3 a z n := ⟨y 0, y 1, y 2, ValueIdx.eq_ix3 y⟩
  have e : idx_main_v71 (ValueIdx.ix3 a z n : S256x1x4608.Idx) = (ValueIdx.ix2 a n : S256x4608.Idx) := by
    have hz := z.isLt
    have hn := n.isLt
    funext b
    match b with
    | ⟨0, _⟩ => exact Fin.ext (show ((a.val * 1 + z.val) * 4608 + n.val) / 4608 = a.val by omega)
    | ⟨1, _⟩ => exact Fin.ext (show ((a.val * 1 + z.val) * 4608 + n.val) % 4608 = n.val by omega)
  rw [val_main_v71_apply, e, val_main_v70_apply, down_dot]
  rfl

end Cert.Proof

end
-- ==== Proof.Finite.lean ====
module

public import proofs.«01_k».proof.Pre_finite_scales
public import proofs.«01_k».proof.Proof.Value

@[expose] public section

noncomputable section

namespace Cert.Proof

open Idealize.ShloMosaic

/-- The precondition's shape relations. -/
theorem pre_facts : Cert.Pre_finite_scales.Facts := ⟨by decide, by decide⟩

/-- A value whose magnitude compares below infinity is a real number. -/
theorem real_of_lt (x : EReal) (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

/-- The precondition read: every scale is a real number. -/
theorem pre_real [Cert.Pre_finite_scales.Facts] (a0 : FVec Ideal Cert.Pre_finite_scales.S256x1x4608 .bf16) (a1 : IVec Cert.Pre_finite_scales.S9216x2304 8)
    (a2 : FVec Ideal Cert.Pre_finite_scales.S9216x144 .f32) (a3 : IVec Cert.Pre_finite_scales.S9216x2304 8)
    (a4 : FVec Ideal Cert.Pre_finite_scales.S9216x144 .f32) (a5 : IVec Cert.Pre_finite_scales.S4608x4608 8)
    (a6 : FVec Ideal Cert.Pre_finite_scales.S4608x288 .f32)
    (h : (Cert.Pre_finite_scales.fn a0 a1 a2 a3 a4 a5 a6).1 = (fun _ => 1#1) ∧ (Cert.Pre_finite_scales.fn a0 a1 a2 a3 a4 a5 a6).2.1 = (fun _ => 1#1)
      ∧ (Cert.Pre_finite_scales.fn a0 a1 a2 a3 a4 a5 a6).2.2 = (fun _ => 1#1)) :
    (∀ y, ∃ r : ℝ, a2 y = (r : EReal)) ∧ (∀ y, ∃ r : ℝ, a4 y = (r : EReal)) ∧ (∀ y, ∃ r : ℝ, a6 y = (r : EReal)) :=
  ⟨fun y => real_of_lt _ (congrFun h.1 y), fun y => real_of_lt _ (congrFun h.2.1 y), fun y => real_of_lt _ (congrFun h.2.2 y)⟩

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Run
public import proofs.«01_k».proof.Proof.Ref
public import proofs.«01_k».proof.Proof.Finite
public import Idealize.ShloMosaic.Adequacy
public import Idealize.ShloMosaic.Lib.Bf16Pair
public import Idealize.ShloMosaic.Lib.Bf16PairInverse
public import Idealize.ShloMosaic.Init

@[expose] public section

noncomputable section

namespace Cert.Proof

open Idealize.ShloMosaic Idealize.SL.Sem

/-- The reference at `Ideal`: every execution ends, its arguments are what they were, and, the program declaring no
    semaphore, every counter is at zero. -/
theorem frame_r : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The idealization is sanctioned: each rewrite of the ledger, once per pair of shapes. -/
theorem preserves : Cert.preserves_Kernel_KernelIdeal :=
  ⟨IdealRules.bf16_pair.bufferStatement _ _, IdealRules.bf16_pair.packStatement _, IdealRules.bf16_pair.statement _ _,
    IdealRules.bf16_pair.statement _ _, IdealRules.bf16_pair.statement _ _, IdealRules.bf16_pair.bufferStatement _ _,
    IdealRules.bf16_pair.packStatement _, IdealRules.bf16_pair.statement _ _⟩

/-- With every scale finite, the kernel and the reference leave the same result: the layer of the arguments. -/
theorem algebraic : Cert.algebraic_KernelIdeal_ReferenceIdeal_pre_finite_scales (hPre_finite_scales := pre_facts) := by
  intro m g m' g' hpre hargs
  refine ⟨fun c => Cert.KernelIdeal.Gen.W4 m g c (Proc.devRef .tc Cert.KernelIdeal.main_v6), run_result m g, ?_⟩
  refine (θ_run Cert.ReferenceIdeal.defs _ _).mono (fun r h c => ⟨(h c).1.trans ?_, (h c).2⟩) (Cert.ReferenceIdeal.Value.run (F := Ideal) m' g')
  have := pre_facts
  obtain ⟨h2, h4, h6⟩ := pre_real _ _ _ _ _ _ _ (hpre c)
  obtain ⟨e0, e1, e2, e3, e4, e5, e6⟩ := hargs c
  rw [Cert.ReferenceIdeal.Read.val_main_v71_eq, e0, e1, e2, e3, e4, e5, e6]
  exact (reference_eq _ _ _ _ _ _ _).trans (result_eq m g c h2 h4 h6).symm

/-- Everything Defs.lean claims. -/
theorem claim : Cert.Claim := ⟨Cert.Kernel.Gen.facts, Cert.KernelIdeal.Gen.facts, Cert.ReferenceIdeal.Gen.facts, pre_facts,
  fun m ρ _ => Cert.Kernel.Gen.frame m ρ, fun m ρ _ => Cert.KernelIdeal.Gen.frame m ρ, fun m ρ _ => Cert.KernelIdeal.Gen.frame m ρ,
  frame_r, fun m ρ _ => frame_r m ρ trivial, preserves, algebraic⟩

end Cert.Proof

end
